-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_exact [hPre_finite_exact : Cert.Pre_finite_exact.Facts] (m : (ℓ : Loc Cert.KernelIdeal.nD Cert.KernelIdeal.τ Cert.KernelIdeal.sig) → Buf (Elt Ideal) ℓ) : Prop :=
  ∀ c : Dev Cert.KernelIdeal.nD,
    (Cert.Pre_finite_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.1 = (fun _ => 1#1)
    ∧ (Cert.Pre_finite_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_exact [hPre_finite_exact : Cert.Pre_finite_exact.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_exact.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_exact.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_exact.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_exact.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_exact.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_exact.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite_exact.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite_exact.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.1 = (fun _ => 1#1)
    ∧ (Cert.Pre_finite_exact.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_exact [hKernelIdeal : Cert.KernelIdeal.Facts] [hPre_finite_exact : Cert.Pre_finite_exact.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_exact m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_exact [hReferenceIdeal : Cert.ReferenceIdeal.Facts] [hPre_finite_exact : Cert.Pre_finite_exact.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_exact m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "off" .f32 0x3851B717#32 ((1 / 20000 : ℝ) : EReal)
  ∧ IdealRules.named_const.Statement Cert.KernelIdeal.κ "inv_127" .f32 0x3C010204#32 ((1 / 127 : ℝ) : EReal)
  ∧ IdealRules.named_const.Statement Cert.KernelIdeal.κ "inv_s" .f32 0x34D35DD3#32 ((1 / 2540000 : ℝ) : EReal)

def algebraic_KernelIdeal_ReferenceIdeal_pre_finite_exact [hKernelIdeal : Cert.KernelIdeal.Facts] [hReferenceIdeal : Cert.ReferenceIdeal.Facts] [hPre_finite_exact : Cert.Pre_finite_exact.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_exact m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_exact : Cert.Pre_finite_exact.Facts),
    quiescent_Kernel (hKernel := hKernel)
    ∧ quiescent_KernelIdeal (hKernelIdeal := hKernelIdeal)
    ∧ quiescent_KernelIdeal_pre_finite_exact (hKernelIdeal := hKernelIdeal) (hPre_finite_exact := hPre_finite_exact)
    ∧ quiescent_ReferenceIdeal (hReferenceIdeal := hReferenceIdeal)
    ∧ quiescent_ReferenceIdeal_pre_finite_exact (hReferenceIdeal := hReferenceIdeal) (hPre_finite_exact := hPre_finite_exact)
    ∧ preserves_Kernel_KernelIdeal
    ∧ algebraic_KernelIdeal_ReferenceIdeal_pre_finite_exact (hKernelIdeal := hKernelIdeal) (hReferenceIdeal := hReferenceIdeal) (hPre_finite_exact := hPre_finite_exact)
-- ==== Pre_finite_exact.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S40x96 : Shape := ⟨2, ![40, 96]⟩
abbrev S40 : Shape := ⟨1, ![40]⟩
abbrev S10000x64 : Shape := ⟨2, ![10000, 64]⟩
abbrev S1x64 : Shape := ⟨2, ![1, 64]⟩
abbrev S10000x32 : Shape := ⟨2, ![10000, 32]⟩
abbrev S_ : Shape := ⟨0, ![]⟩
abbrev S1x32 : Shape := ⟨2, ![1, 32]⟩

class Facts : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x10000 : S_.BroadcastsInDim S10000x10000 (![] : Fin 0 → Fin S10000x10000.rank)
  reducesTo_S10000x32_S32_d0 : S10000x32.ReducesTo [0] S32
  h_S_ : 0 < S_.numel
  bcast_S_S32 : S_.BroadcastsInDim S32 (![] : Fin 0 → Fin S32.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  bcast_S_S10000x128 : S_.BroadcastsInDim S10000x128 (![] : Fin 0 → Fin S10000x128.rank)
  bcast_S_S128x64 : S_.BroadcastsInDim S128x64 (![] : Fin 0 → Fin S128x64.rank)
  bcast_S_S64 : S_.BroadcastsInDim S64 (![] : Fin 0 → Fin S64.rank)
  bcast_S_S64x32 : S_.BroadcastsInDim S64x32 (![] : Fin 0 → Fin S64x32.rank)
  bcast_S_S40x96 : S_.BroadcastsInDim S40x96 (![] : Fin 0 → Fin S40x96.rank)
  bcast_S_S40 : S_.BroadcastsInDim S40 (![] : Fin 0 → Fin S40.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []
  dot_S10000x10000_S10000x32_S10000x32_1_0_0_1_n_n_wf : DotDims.WF S10000x10000 S10000x32 S10000x32 [1] [0] [0] [1] [] []

variable [Facts]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def fn_round {F : FTy → Type} [FloatOps F] (arg0 : FVec F S10000x10000 .f32) : FVec F S10000x10000 .f32 :=
  let v0 : FVec F S10000x10000 .f32 := Host.roundeven arg0
  v0

def fn_clip {F : FTy → Type} [FloatOps F] (arg0 : FVec F S10000x10000 .f32) (arg1 : FVec F S_ .f32) (arg2 : FVec F S_ .f32) : FVec F S10000x10000 .f32 :=
  let v0 : FVec F S_ .f32 := id arg1
  let v1 : FVec F S10000x10000 .f32 := broadcastInDim S10000x10000 ![] bcast_S_S10000x10000 v0
  let v2 : FVec F S10000x10000 .f32 := maximumf v1 arg0
  let v3 : FVec F S_ .f32 := id arg2
  let v4 : FVec F S10000x10000 .f32 := broadcastInDim S10000x10000 ![] bcast_S_S10000x10000 v3
  let v5 : FVec F S10000x10000 .f32 := minimumf v4 v2
  v5

def fn_round_0 {F : FTy → Type} [FloatOps F] (arg0 : FVec F S10000x32 .f32) : FVec F S10000x32 .f32 :=
  let v0 : FVec F S10000x32 .f32 := Host.roundeven arg0
  v0

def fn_clip_1 {F : FTy → Type} [FloatOps F] (arg0 : FVec F S10000x32 .f32) (arg1 : FVec F S_ .f32) (arg2 : FVec F S_ .f32) : FVec F S10000x32 .f32 :=
  let v0 : FVec F S_ .f32 := id arg1
  let v1 : FVec F S10000x32 .f32 := broadcastInDim S10000x32 ![] bcast_S_S10000x32 v0
  let v2 : FVec F S10000x32 .f32 := maximumf v1 arg0
  let v3 : FVec F S_ .f32 := id arg2
  let v4 : FVec F S10000x32 .f32 := broadcastInDim S10000x32 ![] bcast_S_S10000x32 v3
  let v5 : FVec F S10000x32 .f32 := minimumf v4 v2
  v5

def fn_part3 {F : FTy → Type} [FloatOps F] (main_v27 : IVec S10000x128 1) (main_v30 : IVec S10000x10000 1) (main_v33 : IVec S128x64 1) (main_v36 : IVec S64 1) (main_v39 : IVec S64x32 1) (main_v42 : IVec S32 1) (main_v45 : IVec S40x96 1) (main_v48 : IVec S40 1) (main_v51 : FVec F S10000x32 .f32) (main_v52 : FVec F S10000x32 .f32) : IVec S10000x128 1 × IVec S10000x10000 1 × IVec S128x64 1 × IVec S64 1 × IVec S64x32 1 × IVec S32 1 × IVec S40x96 1 × IVec S40 1 × IVec S10000x32 1 :=
  let main_v53 : IVec S10000x32 1 := cmpf .ole main_v51 main_v52
  (main_v27, main_v30, main_v33, main_v36, main_v39, main_v42, main_v45, main_v48, main_v53)

def fn_part2 {F : FTy → Type} [FloatOps F] (main_arg4 : FVec F S64x32 .f32) (main_arg5 : FVec F S32 .f32) (main_arg6 : FVec F S40x96 .f32) (main_arg7 : FVec F S40 .f32) (main_v13 : FVec F S10000x10000 .f32) (main_v24 : FVec F S10000x32 .f32) (main_v27 : IVec S10000x128 1) (main_v30 : IVec S10000x10000 1) (main_v33 : IVec S128x64 1) (main_v34 : FVec F S64 .f32) : IVec S10000x128 1 × IVec S10000x10000 1 × IVec S128x64 1 × IVec S64 1 × IVec S64x32 1 × IVec S32 1 × IVec S40x96 1 × IVec S40 1 × IVec S10000x32 1 :=
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_v37 : FVec F S64x32 .f32 := Host.absf main_arg4
  let main_cst_13 : FVec F S_ .f32 := constant S_ .f32 0x7F800000#32
  let main_v38 : FVec F S64x32 .f32 := broadcastInDim S64x32 ![] bcast_S_S64x32 main_cst_13
  let main_v39 : IVec S64x32 1 := cmpf .olt main_v37 main_v38
  let main_v40 : FVec F S32 .f32 := Host.absf main_arg5
  let main_cst_14 : FVec F S_ .f32 := constant S_ .f32 0x7F800000#32
  let main_v41 : FVec F S32 .f32 := broadcastInDim S32 ![] bcast_S_S32 main_cst_14
  let main_v42 : IVec S32 1 := cmpf .olt main_v40 main_v41
  let main_v43 : FVec F S40x96 .f32 := Host.absf main_arg6
  let main_cst_15 : FVec F S_ .f32 := constant S_ .f32 0x7F800000#32
  let main_v44 : FVec F S40x96 .f32 := broadcastInDim S40x96 ![] bcast_S_S40x96 main_cst_15
  let main_v45 : IVec S40x96 1 := cmpf .olt main_v43 main_v44
  let main_v46 : FVec F S40 .f32 := Host.absf main_arg7
  let main_cst_16 : FVec F S_ .f32 := constant S_ .f32 0x7F800000#32
  let main_v47 : FVec F S40 .f32 := broadcastInDim S40 ![] bcast_S_S40 main_cst_16
  let main_v48 : IVec S40 1 := cmpf .olt main_v46 main_v47
  let main_v49 : FVec F S10000x10000 .f32 := Host.absf main_v13
  let main_v50 : FVec F S10000x32 .f32 := Host.absf main_v24
  let main_v51 : FVec F S10000x32 .f32 := (fun l r => Host.dotGeneral dot_S10000x10000_S10000x32_S10000x32_1_0_0_1_n_n none l r) main_v49 main_v50
  let main_cst_17 : FVec F S_ .f32 := constant S_ .f32 0x4C800000#32
  let main_v52 : FVec F S10000x32 .f32 := broadcastInDim S10000x32 ![] bcast_S_S10000x32 main_cst_17
  fn_part3 (F := F) main_v27 main_v30 main_v33 main_v36 main_v39 main_v42 main_v45 main_v48 main_v51 main_v52

def fn_part1 {F : FTy → Type} [FloatOps F] (main_arg0 : FVec F S10000x128 .f32) (main_arg1 : FVec F S10000x10000 .f32) (main_arg2 : FVec F S128x64 .f32) (main_arg3 : FVec F S64 .f32) (main_arg4 : FVec F S64x32 .f32) (main_arg5 : FVec F S32 .f32) (main_arg6 : FVec F S40x96 .f32) (main_arg7 : FVec F S40 .f32) (main_v5 : FVec F S10000x32 .f32) (main_v13 : FVec F S10000x10000 .f32) (main_v15 : FVec F S32 .f32) (main_v16 : FVec F S32 .f32) : IVec S10000x128 1 × IVec S10000x10000 1 × IVec S128x64 1 × IVec S64 1 × IVec S64x32 1 × IVec S32 1 × IVec S40x96 1 × IVec S40 1 × IVec S10000x32 1 :=
  let main_v17 : FVec F S32 .f32 := maximumf main_v15 main_v16
  let main_cst_6 : FVec F S_ .f32 := constant S_ .f32 0x42FE0000#32
  let main_v18 : FVec F S32 .f32 := broadcastInDim S32 ![] bcast_S_S32 main_cst_6
  let main_v19 : FVec F S32 .f32 := Host.divf main_v17 main_v18
  let main_v20 : FVec F S1x32 .f32 := broadcastInDim S1x32 ![1] bcast_S32_S1x32_1 main_v19
  let main_v21 : FVec F S10000x32 .f32 := broadcastInDim S10000x32 ![0, 1] bcast_S1x32_S10000x32_0_1 main_v20
  let main_v22 : FVec F S10000x32 .f32 := Host.divf main_v5 main_v21
  let main_v23 : FVec F S10000x32 .f32 := fn_round_0 (F := F) main_v22
  let main_cst_7 : FVec F S_ .f32 := constant S_ .f32 0xC2FE0000#32
  let main_cst_8 : FVec F S_ .f32 := constant S_ .f32 0x42FE0000#32
  let main_v24 : FVec F S10000x32 .f32 := fn_clip_1 (F := F) main_v23 main_cst_7 main_cst_8
  let main_v25 : FVec F S10000x128 .f32 := Host.absf main_arg0
  let main_cst_9 : FVec F S_ .f32 := constant S_ .f32 0x7F800000#32
  let main_v26 : FVec F S10000x128 .f32 := broadcastInDim S10000x128 ![] bcast_S_S10000x128 main_cst_9
  let main_v27 : IVec S10000x128 1 := cmpf .olt main_v25 main_v26
  let main_v28 : FVec F S10000x10000 .f32 := Host.absf main_arg1
  let main_cst_10 : FVec F S_ .f32 := constant S_ .f32 0x7F800000#32
  let main_v29 : FVec F S10000x10000 .f32 := broadcastInDim S10000x10000 ![] bcast_S_S10000x10000 main_cst_10
  let main_v30 : IVec S10000x10000 1 := cmpf .olt main_v28 main_v29
  let main_v31 : FVec F S128x64 .f32 := Host.absf main_arg2
  let main_cst_11 : FVec F S_ .f32 := constant S_ .f32 0x7F800000#32
  let main_v32 : FVec F S128x64 .f32 := broadcastInDim S128x64 ![] bcast_S_S128x64 main_cst_11
  let main_v33 : IVec S128x64 1 := cmpf .olt main_v31 main_v32
  let main_v34 : FVec F S64 .f32 := Host.absf main_arg3
  fn_part2 (F := F) main_arg4 main_arg5 main_arg6 main_arg7 main_v13 main_v24 main_v27 main_v30 main_v33 main_v34

def fn {F : FTy → Type} [FloatOps F] (main_arg0 : FVec F S10000x128 .f32) (main_arg1 : FVec F S10000x10000 .f32) (main_arg2 : FVec F S128x64 .f32) (main_arg3 : FVec F S64 .f32) (main_arg4 : FVec F S64x32 .f32) (main_arg5 : FVec F S32 .f32) (main_arg6 : FVec F S40x96 .f32) (main_arg7 : FVec F S40 .f32) : IVec S10000x128 1 × IVec S10000x10000 1 × IVec S128x64 1 × IVec S64 1 × IVec S64x32 1 × IVec S32 1 × IVec S40x96 1 × IVec S40 1 × IVec S10000x32 1 :=
  let main_v0 : FVec F S10000x64 .f32 := (fun l r => Host.dotGeneral dot_S10000x128_S128x64_S10000x64_1_0_0_1_n_n none l r) main_arg0 main_arg2
  let main_v1 : FVec F S10000x64 .f32 := (fun l r => Host.dotGeneral dot_S10000x10000_S10000x64_S10000x64_1_0_0_1_n_n none l r) main_arg1 main_v0
  let main_v2 : FVec F S1x64 .f32 := broadcastInDim S1x64 ![1] bcast_S64_S1x64_1 main_arg3
  let main_v3 : FVec F S10000x64 .f32 := broadcastInDim S10000x64 ![0, 1] bcast_S1x64_S10000x64_0_1 main_v2
  let main_v4 : FVec F S10000x64 .f32 := addf main_v1 main_v3
  let main_v5 : FVec F S10000x32 .f32 := (fun l r => Host.dotGeneral dot_S10000x64_S64x32_S10000x32_1_0_0_1_n_n none l r) main_v4 main_arg4
  let main_cst : FVec F S_ .f32 := constant S_ .f32 0x469C4000#32
  let main_v6 : FVec F S10000x10000 .f32 := broadcastInDim S10000x10000 ![] bcast_S_S10000x10000 main_cst
  let main_v7 : FVec F S10000x10000 .f32 := mulf main_arg1 main_v6
  let main_cst_0 : FVec F S_ .f32 := constant S_ .f32 0x3F800000#32
  let main_v8 : FVec F S10000x10000 .f32 := broadcastInDim S10000x10000 ![] bcast_S_S10000x10000 main_cst_0
  let main_v9 : FVec F S10000x10000 .f32 := subf main_v7 main_v8
  let main_cst_1 : FVec F S_ .f32 := constant S_ .f32 0x42FE0000#32
  let main_v10 : FVec F S10000x10000 .f32 := broadcastInDim S10000x10000 ![] bcast_S_S10000x10000 main_cst_1
  let main_v11 : FVec F S10000x10000 .f32 := mulf main_v9 main_v10
  let main_v12 : FVec F S10000x10000 .f32 := fn_round (F := F) main_v11
  let main_cst_2 : FVec F S_ .f32 := constant S_ .f32 0xC2FE0000#32
  let main_cst_3 : FVec F S_ .f32 := constant S_ .f32 0x42FE0000#32
  let main_v13 : FVec F S10000x10000 .f32 := fn_clip (F := F) main_v12 main_cst_2 main_cst_3
  let main_v14 : FVec F S10000x32 .f32 := Host.absf main_v5
  let main_cst_4 : FVec F S_ .f32 := constant S_ .f32 0xFF800000#32
  let main_v15 : FVec F S32 .f32 := (fun x v => Host.reduce FloatOps.maximumf x v reducesTo_S10000x32_S32_d0 h_S_) main_v14 main_cst_4
  let main_cst_5 : FVec F S_ .f32 := constant S_ .f32 0x0DA24260#32
  let main_v16 : FVec F S32 .f32 := broadcastInDim S32 ![] bcast_S_S32 main_cst_5
  fn_part1 (F := F) main_arg0 main_arg1 main_arg2 main_arg3 main_arg4 main_arg5 main_arg6 main_arg7 main_v5 main_v13 main_v15 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S40x96 : Shape := ⟨2, ![40, 96]⟩
abbrev S40 : Shape := ⟨1, ![40]⟩
abbrev S128x32 : Shape := ⟨2, ![128, 32]⟩
abbrev S128x96 : Shape := ⟨2, ![128, 96]⟩
abbrev S96 : Shape := ⟨1, ![96]⟩
abbrev S1x96 : Shape := ⟨2, ![1, 96]⟩
abbrev S96x40 : Shape := ⟨2, ![96, 40]⟩
abbrev S1x32 : Shape := ⟨2, ![1, 32]⟩
abbrev S1x40 : Shape := ⟨2, ![1, 40]⟩
abbrev S10000x64 : Shape := ⟨2, ![10000, 64]⟩
abbrev S10000x32 : Shape := ⟨2, ![10000, 32]⟩
abbrev S25x400x10000 : Shape := ⟨3, ![25, 400, 10000]⟩
abbrev S10000x40 : Shape := ⟨2, ![10000, 40]⟩
abbrev S400x10000 : Shape := ⟨2, ![400, 10000]⟩
abbrev S400x64 : Shape := ⟨2, ![400, 64]⟩
abbrev S400x32 : Shape := ⟨2, ![400, 32]⟩
abbrev S1x400x10000 : Shape := ⟨3, ![1, 400, 10000]⟩
abbrev S10000x96 : Shape := ⟨2, ![10000, 96]⟩
abbrev S400x96 : Shape := ⟨2, ![400, 96]⟩
abbrev S400x40 : Shape := ⟨2, ![400, 40]⟩
abbrev S400 : Shape := ⟨1, ![400]⟩
abbrev S400x1 : Shape := ⟨2, ![400, 1]⟩

abbrev nBuf : Space → Nat
  | .hbm => 20
  | .vmem => 25
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S40x96, .f32⟩
  | .hbm, ⟨7, _⟩ => ⟨S40, .f32⟩
  | .hbm, ⟨8, _⟩ => ⟨S128x32, .f32⟩
  | .hbm, ⟨9, _⟩ => ⟨S128x96, .f32⟩
  | .hbm, ⟨10, _⟩ => ⟨S32, .f32⟩
  | .hbm, ⟨11, _⟩ => ⟨S96, .f32⟩
  | .hbm, ⟨12, _⟩ => ⟨S1x96, .f32⟩
  | .hbm, ⟨13, _⟩ => ⟨S96x40, .f32⟩
  | .hbm, ⟨14, _⟩ => ⟨S1x32, .f32⟩
  | .hbm, ⟨15, _⟩ => ⟨S1x40, .f32⟩
  | .hbm, ⟨16, _⟩ => ⟨S10000x64, .f32⟩
  | .hbm, ⟨17, _⟩ => ⟨S10000x32, .f32⟩
  | .hbm, ⟨18, _⟩ => ⟨S25x400x10000, .i8⟩
  | .hbm, ⟨19, _⟩ => ⟨S10000x40, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x96, .f32⟩
  | .local _ .vmem, ⟨4, _⟩ => ⟨S1x96, .f32⟩
  | .local _ .vmem, ⟨5, _⟩ => ⟨S400x64, .f32⟩
  | .local _ .vmem, ⟨6, _⟩ => ⟨S400x64, .f32⟩
  | .local _ .vmem, ⟨7, _⟩ => ⟨S400x32, .f32⟩
  | .local _ .vmem, ⟨8, _⟩ => ⟨S400x32, .f32⟩
  | .local _ .vmem, ⟨9, _⟩ => ⟨S1x400x10000, .i8⟩
  | .local _ .vmem, ⟨10, _⟩ => ⟨S1x400x10000, .i8⟩
  | .local _ .vmem, ⟨11, _⟩ => ⟨S10000x96, .f32⟩
  | .local _ .vmem, ⟨12, _⟩ => ⟨S1x400x10000, .i8⟩
  | .local _ .vmem, ⟨13, _⟩ => ⟨S1x400x10000, .i8⟩
  | .local _ .vmem, ⟨14, _⟩ => ⟨S10000x32, .f32⟩
  | .local _ .vmem, ⟨15, _⟩ => ⟨S400x64, .f32⟩
  | .local _ .vmem, ⟨16, _⟩ => ⟨S400x64, .f32⟩
  | .local _ .vmem, ⟨17, _⟩ => ⟨S96x40, .f32⟩
  | .local _ .vmem, ⟨18, _⟩ => ⟨S1x32, .f32⟩
  | .local _ .vmem, ⟨19, _⟩ => ⟨S1x40, .f32⟩
  | .local _ .vmem, ⟨20, _⟩ => ⟨S400x40, .f32⟩
  | .local _ .vmem, ⟨21, _⟩ => ⟨S400x40, .f32⟩
  | .local _ .vmem, ⟨22, _⟩ => ⟨S10000x32, .i8⟩
  | .local _ .vmem, ⟨23, _⟩ => ⟨S1x32, .f32⟩
  | .local _ .vmem, ⟨24, _⟩ => ⟨S1x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8_0 : Ref sig .tc := ⟨.hbm, 16, rfl⟩
abbrev main_call0_v8_1 : Ref sig .tc := ⟨.hbm, 17, rfl⟩
abbrev main_call0_v8_2 : Ref sig .tc := ⟨.hbm, 18, rfl⟩
abbrev main_v0 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20

abbrev nD : Nat := 1
abbrev τ : Topo := Topo.v5e

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x400x10000 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x400x10000 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S96x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S400x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== KernelIdeal.lean ====
variable {F : FTy → Type} [FloatOps F] [Named F]
def κ : String → Option EReal := fun
  | "inv_127" => some ((1 / 127 : ℝ) : EReal)
  | "inv_s" => some ((1 / 2540000 : ℝ) : EReal)
  | "off" => some ((1 / 20000 : ℝ) : EReal)
  | _ => none
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S40x96 : Shape := ⟨2, ![40, 96]⟩
abbrev S40 : Shape := ⟨1, ![40]⟩
abbrev S10000x64 : Shape := ⟨2, ![10000, 64]⟩
abbrev S1x64 : Shape := ⟨2, ![1, 64]⟩
abbrev S10000x32 : Shape := ⟨2, ![10000, 32]⟩
abbrev S_ : Shape := ⟨0, ![]⟩
abbrev S1x32 : Shape := ⟨2, ![1, 32]⟩
abbrev S10000x96 : Shape := ⟨2, ![10000, 96]⟩
abbrev S96x40 : Shape := ⟨2, ![96, 40]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 95
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S40x96, .f32⟩
  | .hbm, ⟨7, _⟩ => ⟨S40, .f32⟩
  | .hbm, ⟨8, _⟩ => ⟨S10000x64, .f32⟩
  | .hbm, ⟨9, _⟩ => ⟨S10000x64, .f32⟩
  | .hbm, ⟨10, _⟩ => ⟨S1x64, .f32⟩
  | .hbm, ⟨11, _⟩ => ⟨S10000x64, .f32⟩
  | .hbm, ⟨12, _⟩ => ⟨S10000x64, .f32⟩
  | .hbm, ⟨13, _⟩ => ⟨S10000x32, .f32⟩
  | .hbm, ⟨14, _⟩ => ⟨S_, .f32⟩
  | .hbm, ⟨15, _⟩ => ⟨S10000x10000, .f32⟩
  | .hbm, ⟨16, _⟩ => ⟨S10000x10000, .f32⟩
  | .hbm, ⟨17, _⟩ => ⟨S_, .f32⟩
  | .hbm, ⟨18, _⟩ => ⟨S10000x10000, .f32⟩
  | .hbm, ⟨19, _⟩ => ⟨S10000x10000, .f32⟩
  | .hbm, ⟨20, _⟩ => ⟨S_, .f32⟩
  | .hbm, ⟨21, _⟩ => ⟨S10000x10000, .f32⟩
  | .hbm, ⟨22, _⟩ => ⟨S10000x10000, .f32⟩
  | .hbm, ⟨23, _⟩ => ⟨S10000x10000, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S10000x10000, .f32⟩
  | .hbm, ⟨28, _⟩ => ⟨S10000x10000, .f32⟩
  | .hbm, ⟨29, _⟩ => ⟨S_, .f32⟩
  | .hbm, ⟨30, _⟩ => ⟨S10000x10000, .f32⟩
  | .hbm, ⟨31, _⟩ => ⟨S10000x10000, .f32⟩
  | .hbm, ⟨32, _⟩ => ⟨S10000x32, .f32⟩
  | .hbm, ⟨33, _⟩ => ⟨S_, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S1x32, .f32⟩
  | .hbm, ⟨42, _⟩ => ⟨S10000x32, .f32⟩
  | .hbm, ⟨43, _⟩ => ⟨S10000x32, .f32⟩
  | .hbm, ⟨44, _⟩ => ⟨S10000x32, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S10000x32, .f32⟩
  | .hbm, ⟨49, _⟩ => ⟨S10000x32, .f32⟩
  | .hbm, ⟨50, _⟩ => ⟨S_, .f32⟩
  | .hbm, ⟨51, _⟩ => ⟨S10000x32, .f32⟩
  | .hbm, ⟨52, _⟩ => ⟨S10000x32, .f32⟩
  | .hbm, ⟨53, _⟩ => ⟨S_, .f32⟩
  | .hbm, ⟨54, _⟩ => ⟨S10000x10000, .f32⟩
  | .hbm, ⟨55, _⟩ => ⟨S10000x10000, .f32⟩
  | .hbm, ⟨56, _⟩ => ⟨S1x32, .f32⟩
  | .hbm, ⟨57, _⟩ => ⟨S10000x32, .f32⟩
  | .hbm, ⟨58, _⟩ => ⟨S10000x32, .f32⟩
  | .hbm, ⟨59, _⟩ => ⟨S10000x32, .f32⟩
  | .hbm, ⟨60, _⟩ => ⟨S_, .f32⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S1x32, .f32⟩
  | .hbm, ⟨69, _⟩ => ⟨S10000x32, .f32⟩
  | .hbm, ⟨70, _⟩ => ⟨S10000x32, .f32⟩
  | .hbm, ⟨71, _⟩ => ⟨S1x32, .f32⟩
  | .hbm, ⟨72, _⟩ => ⟨S10000x32, .f32⟩
  | .hbm, ⟨73, _⟩ => ⟨S10000x32, .f32⟩
  | .hbm, ⟨74, _⟩ => ⟨S10000x96, .f32⟩
  | .hbm, ⟨75, _⟩ => ⟨S96x40, .f32⟩
  | .hbm, ⟨76, _⟩ => ⟨S10000x40, .f32⟩
  | .hbm, ⟨77, _⟩ => ⟨S1x40, .f32⟩
  | .hbm, ⟨78, _⟩ => ⟨S10000x40, .f32⟩
  | .hbm, ⟨79, _⟩ => ⟨S10000x40, .f32⟩
  | .hbm, ⟨80, _⟩ => ⟨S_, .f32⟩
  | .hbm, ⟨81, _⟩ => ⟨S10000, .f32⟩
  | .hbm, ⟨82, _⟩ => ⟨S_, .f32⟩
  | .hbm, ⟨83, _⟩ => ⟨S10000, .f32⟩
  | .hbm, ⟨84, _⟩ => ⟨S10000, .f32⟩
  | .hbm, ⟨85, _⟩ => ⟨S10000x1, .f32⟩
  | .hbm, ⟨86, _⟩ => ⟨S10000x40, .f32⟩
  | .hbm, ⟨87, _⟩ => ⟨S10000x40, .f32⟩
  | .hbm, ⟨88, _⟩ => ⟨S10000x40, .f32⟩
  | .hbm, ⟨89, _⟩ => ⟨S_, .f32⟩
  | .hbm, ⟨90, _⟩ => ⟨S10000, .f32⟩
  | .hbm, ⟨91, _⟩ => ⟨S10000x1, .f32⟩
  | .hbm, ⟨92, _⟩ => ⟨S10000x1, .f32⟩
  | .hbm, ⟨93, _⟩ => ⟨S10000x40, .f32⟩
  | .hbm, ⟨94, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_cst_5 : Ref sig .tc := ⟨.hbm, 35, rfl⟩
abbrev main_v16 : Ref sig .tc := ⟨.hbm, 36, rfl⟩
abbrev main_v17 : Ref sig .tc := ⟨.hbm, 37, rfl⟩
abbrev main_cst_6 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_7 : Ref sig .tc := ⟨.hbm, 45, rfl⟩
abbrev main_cst_8 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_v24 : Ref sig .tc := ⟨.hbm, 52, rfl⟩
abbrev main_cst_9 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_10 : Ref sig .tc := ⟨.hbm, 60, rfl⟩
abbrev main_v31 : Ref sig .tc := ⟨.hbm, 61, rfl⟩
abbrev main_cst_11 : Ref sig .tc := ⟨.hbm, 62, rfl⟩
abbrev main_v32 : Ref sig .tc := ⟨.hbm, 63, rfl⟩
abbrev main_v33 : Ref sig .tc := ⟨.hbm, 64, rfl⟩
abbrev main_cst_12 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_call4_cst : Ref sig .tc := ⟨.hbm, 80, rfl⟩
abbrev main_call4_v0 : Ref sig .tc := ⟨.hbm, 81, rfl⟩
abbrev main_call4_cst_0 : Ref sig .tc := ⟨.hbm, 82, rfl⟩
abbrev main_call4_v1 : Ref sig .tc := ⟨.hbm, 83, rfl⟩
abbrev main_call4_v2 : Ref sig .tc := ⟨.hbm, 84, rfl⟩
abbrev main_call4_v3 : Ref sig .tc := ⟨.hbm, 85, rfl⟩
abbrev main_call4_v4 : Ref sig .tc := ⟨.hbm, 86, rfl⟩
abbrev main_call4_v5 : Ref sig .tc := ⟨.hbm, 87, rfl⟩
abbrev main_call4_v6 : Ref sig .tc := ⟨.hbm, 88, rfl⟩
abbrev main_call4_cst_1 : Ref sig .tc := ⟨.hbm, 89, rfl⟩
abbrev main_call4_v7 : Ref sig .tc := ⟨.hbm, 90, rfl⟩
abbrev main_call4_v8 : Ref sig .tc := ⟨.hbm, 91, rfl⟩
abbrev main_call4_v9 : Ref sig .tc := ⟨.hbm, 92, rfl⟩
abbrev main_call4_v10 : Ref sig .tc := ⟨.hbm, 93, rfl⟩
abbrev main_v48 : Ref sig .tc := ⟨.hbm, 94, rfl⟩

abbrev nD : Nat := 1
abbrev τ : Topo := Topo.v5e

variable {F : FTy → Type} [FloatOps F]
-- ==== Proof.Common.lean ====
/-
  What both passes' region proofs share: the resource algebra of the launch, a buffer held whole through its memref, and the
  rest of the thread state that rides along. The program text is that of `KernelIdeal` over any float instance `F`.
-/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Regions
public import Idealize.ShloMosaic.Lib.Pipeline.FrameBody
public import Idealize.ShloMosaic.Lib.Tactic

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat)

variable {F : FTy → Type} [FloatOps F] [Named F]

/-- The launch's resource algebra: the pipeline library's copy beside the counters the transfers' invariants use. -/
abbrev UU : Type := UR sig nD τ × Counters

/-- Memref `M` held whole on core `c`, its view reading `X`. -/
abbrev holds (c : Dev nD) {sp : Space} {S : Shape} {e : EltTy} (M : Memref sig .tc sp S e) (X : S.Idx → Elt F e) :
    sProp (MT nD τ sig Unit (Elt F) ℕ UU ℕ) :=
  owns (c : Thread nD τ) M fullShare X

/-- No promise between cores: no level is assigned. -/
abbrev L : GSem nD τ sig → Finset Unit := fun _ => ∅
abbrev lv : GSem nD τ sig → Unit → ℕ := fun _ _ => 0
abbrev 𝒱₀ : Variants := Variants.none

/-- What rides along beside the unscoped buffers: the core owes nothing. -/
abbrev Rest (c : Dev nD) : sProp (MT nD τ sig Unit (Elt F) ℕ UU ℕ) :=
  iprop(∃ W, owes (c : Thread nD τ) (0 : CellTallies nD τ sig Unit) W)

end Cert.Proof

end
-- ==== Proof.Pass1.lean ====
/-
  Pass 1 (`cc0__pass1_body`, pipeline 0 of @main): the body run by the executor at the first grid point, where it also fills
  the scratch with `x · wc`, and at a later one, where it finds the scratch as the first point left it.
-/
module

public import proofs.«01_k».proof.Proof.Common
public import Idealize.ShloMosaic.Lib.VecWindow

@[expose] public section

noncomputable section

namespace Cert.Proof.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- The body's branch word at a grid point: 1 at the first point. -/
abbrev branch (i : grid0.Coords) : BitVec 1 :=
  Scalar.cmpi .ne (Scalar.extui (Scalar.cmpi .eq (BitVec.ofNat 32 (i 0).val) 0#32) : BitVec 32) 0#32

section Run

variable (c : Dev nD) (i : grid0.Coords)
  (M1 : Memref sig .tc .vmem S10000x128 .f32) (h1 : M1.IsWhole) (M2 : Memref sig .tc .vmem S400x10000 .f32) (h2 : M2.IsWhole)
  (M3 : Memref sig .tc .vmem S128x96 .f32) (h3 : M3.IsWhole) (M4 : Memref sig .tc .vmem S1x96 .f32) (h4 : M4.IsWhole)
  (M5 : Memref sig .tc .vmem S400x64 .f32) (h5 : M5.IsWhole) (M6 : Memref sig .tc .vmem S400x32 .f32) (h6 : M6.IsWhole)
  (M7 : Memref sig .tc .vmem S1x400x10000 .i8) (h7 : M7.IsWhole) (M8 : Memref sig .tc .vmem S10000x96 .f32) (h8 : M8.IsWhole)
  (X1 : Vec F S10000x128 .f32) (X2 : Vec F S400x10000 .f32) (X3 : Vec F S128x96 .f32) (X4 : Vec F S1x96 .f32)

/-- A later point: the scratch holds `S`; the body leaves its three results' blocks computed from it. -/
theorem run_later (hb : branch i ≠ 1#1) (S : Vec F S10000x96 .f32) (Y5 : Vec F S400x64 .f32) (Y6 : Vec F S400x32 .f32)
    (Y7 : Vec F S1x400x10000 .i8) (E : Set ℕ) (Q : PUnit → sProp 𝕄) :
    iprop(holds c M1 X1 ∗ holds c M2 X2 ∗ holds c M3 X3 ∗ holds c M4 X4 ∗ holds c M5 Y5 ∗ holds c M6 Y6 ∗ holds c M7 Y7
        ∗ holds c M8 S
        ∗ (iprop(holds c M1 X1 ∗ holds c M2 X2 ∗ holds c M3 X3 ∗ holds c M4 X4 ∗ holds c M5 (k0_pay3 X2 S X4)
            ∗ holds c M6 (k0_pay4 X2 S X4) ∗ holds c M7 (k0_pay5 X2) ∗ holds c M8 S) -∗ Q ⟨⟩))
      ⊢ wp frame (wpE (defs₀ (F := F)) Variants.none c none) E (cc0__pass1_body i M1 h1 M2 h2 M3 h3 M4 h4 M5 h5 M6 h6 M7 h7 M8 h8) Q := by
  rw [cc0__pass1_body_eq_skeleton]
  unfold cc0__pass1_body_skel holds owns
  rw [dif_neg hb]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, Hk⟩
  have r2 := (View.readAt_full M2.view f2 inb_S400x10000_S400x10000_0_0).trans e2
  have r4 := (View.readAt_full M4.view f4 inb_S1x96_S1x96_0_0).trans e4
  have r8 := (View.readAt_full M8.view f8 inb_S10000x96_S10000x96_0_0).trans e8
  sl_exec!
  sl_step
  iapply Hk
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  isplitl [H5]
  · iexists _; isplitr; swap; (· iexact H5); ipureintro
    unfold run_later.sl.H5_1
    exact View.read_writes_full _ _ _ _ _
  isplitl [H6]
  · iexists _; isplitr; swap; (· iexact H6); ipureintro
    unfold run_later.sl.H6_1
    exact View.read_writes_full _ _ _ _ _
  isplitl [H7]
  · iexists _; isplitr; swap; (· iexact H7); ipureintro
    unfold run_later.sl.H7_1
    exact View.read_writes_full _ _ _ _ _
  iexists f8; isplitr; swap; (· iexact H8); ipureintro; exact e8

/-- The first point: whatever the scratch held, the body fills it with `x · wc` and leaves its results' blocks computed from that. -/
theorem run_first (hb : branch i = 1#1) (Y8 : Vec F S10000x96 .f32) (Y5 : Vec F S400x64 .f32) (Y6 : Vec F S400x32 .f32)
    (Y7 : Vec F S1x400x10000 .i8) (E : Set ℕ) (Q : PUnit → sProp 𝕄) :
    iprop(holds c M1 X1 ∗ holds c M2 X2 ∗ holds c M3 X3 ∗ holds c M4 X4 ∗ holds c M5 Y5 ∗ holds c M6 Y6 ∗ holds c M7 Y7
        ∗ holds c M8 Y8
        ∗ (iprop(holds c M1 X1 ∗ holds c M2 X2 ∗ holds c M3 X3 ∗ holds c M4 X4 ∗ holds c M5 (k0_pay3 X2 (k0_pay1 X1 X3) X4)
            ∗ holds c M6 (k0_pay4 X2 (k0_pay1 X1 X3) X4) ∗ holds c M7 (k0_pay5 X2) ∗ holds c M8 (k0_pay1 X1 X3)) -∗ Q ⟨⟩))
      ⊢ wp frame (wpE (defs₀ (F := F)) Variants.none c none) E (cc0__pass1_body i M1 h1 M2 h2 M3 h3 M4 h4 M5 h5 M6 h6 M7 h7 M8 h8) Q := by
  rw [cc0__pass1_body_eq_skeleton]
  unfold cc0__pass1_body_skel holds owns
  rw [dif_pos hb]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, Hk⟩
  have r1 := (View.readAt_full M1.view f1 inb_S10000x128_S10000x128_0_0).trans e1
  have r2 := (View.readAt_full M2.view f2 inb_S400x10000_S400x10000_0_0).trans e2
  have r3 := (View.readAt_full M3.view f3 inb_S128x96_S128x96_0_0).trans e3
  have r4 := (View.readAt_full M4.view f4 inb_S1x96_S1x96_0_0).trans e4
  sl_exec!
  sl_step
  iapply Hk
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  isplitl [H5]
  · iexists _; isplitr; swap; (· iexact H5); ipureintro
    unfold run_first.sl.H5_1
    rw [View.read_writes_full]
    unfold run_first.sl.v4 run_first.sl.H8_1
    rw [← r1, ← r2, ← r3, ← r4]
    exact congrArg (fun S => k0_pay3 _ S _) (View.readCov_full _ _ _ _ _)
  isplitl [H6]
  · iexists _; isplitr; swap; (· iexact H6); ipureintro
    unfold run_first.sl.H6_1
    rw [View.read_writes_full]
    unfold run_first.sl.v4 run_first.sl.H8_1
    rw [← r1, ← r2, ← r3, ← r4]
    exact congrArg (fun S => k0_pay4 _ S _) (View.readCov_full _ _ _ _ _)
  isplitl [H7]
  · iexists _; isplitr; swap; (· iexact H7); ipureintro
    unfold run_first.sl.H7_1
    exact View.read_writes_full _ _ _ _ _
  iexists _; isplitr; swap; (· iexact H8); ipureintro
  unfold run_first.sl.H8_1
  exact View.read_writes_full _ _ _ _ _

end Run

/-! ### The proof data of the region, entered from a valuation `V` -/

/-- The grid's first point. -/
abbrev t0 : Fin cfg0.N := ⟨0, by decide⟩

/-- The body's branch is taken at the first point. -/
theorem branch_first : branch (grid0.coords t0) = 1#1 := by decide

/-- And at no later one. -/
theorem branch_later : ∀ t : Fin grid0.N, t.val ≠ 0 → branch (grid0.coords t) ≠ 1#1 := by decide

variable (V : Dev nD → Valuation τ sig (Elt F))

/-- Window `w`'s block at point `t`: its array at the entry valuation, read through the block's view. -/
abbrev blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch after the first point: `x · wc`. -/
abbrev scr (c : Dev nD) : Vec F S10000x96 .f32 := k0_pay1 (blk V c 0 t0) (blk V c 2 t0)

/-- The invariant between points: before the first every scoped buffer that is not staged holds something; after it
    the scratch holds `x · wc`. -/
def inv (c : Dev nD) (t : ℕ) : sProp 𝕄 :=
  if t = 0 then Pipeline.scopedRest (Ix := Unit) (Name := ℕ) (U := UU) (Lvl := ℕ) (Val := Elt F) spec0 c
  else iprop(holds c (Memref.whole cc0_scratch0) (scr V c)
    ∗ Pipeline.scopedRestBut (Ix := Unit) (Name := ℕ) (U := UU) (Lvl := ℕ) (Val := Elt F) spec0 c [cc0_scratch0])

/-- The proof data of the region on core `c`. -/
def dat (c : Dev nD) : Dat τ (Elt F) Unit ℕ UU ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => k0_pay3 (blk V c 1 t) (scr V c) (blk V c 3 t)
    | ⟨5, _⟩ => k0_pay4 (blk V c 1 t) (scr V c) (blk V c 3 t)
    | ⟨6, _⟩ => k0_pay5 (blk V c 1 t)
  Φ t := inv V c t.val
  q _ := fullShare
  owed _ := 0

/-- Each input window holds its block when the body runs. -/
theorem before_in0 (c : Dev nD) (t d) : (dat V c).before 0 t d = blk V c 0 t :=
  (dat V c).before_in_eq_fetched 0 rfl (fun _ => rfl) (fun _ _ _ => rfl) (fun _ => rfl) t d
theorem before_in1 (c : Dev nD) (t d) : (dat V c).before 1 t d = blk V c 1 t :=
  (dat V c).before_in_eq_fetched 1 rfl (fun _ => rfl) (fun _ _ _ => rfl) (fun _ => rfl) t d
theorem before_in2 (c : Dev nD) (t d) : (dat V c).before 2 t d = blk V c 2 t :=
  (dat V c).before_in_eq_fetched 2 rfl (fun _ => rfl) (fun _ _ _ => rfl) (fun _ => rfl) t d
theorem before_in3 (c : Dev nD) (t d) : (dat V c).before 3 t d = blk V c 3 t :=
  (dat V c).before_in_eq_fetched 3 rfl (fun _ => rfl) (fun _ _ _ => rfl) (fun _ => rfl) t d

/-- The scoped rest split at the scratch. -/
theorem rest_split (c : Dev nD) :
    (Pipeline.scopedRest (Ix := Unit) (Name := ℕ) (U := UU) (Lvl := ℕ) (Val := Elt F) spec0 c : sProp 𝕄)
      = iprop((∃ f : Buf (Elt F) ((c : Thread nD τ).loc cc0_scratch0), ((c : Thread nD τ).loc cc0_scratch0) ↦{fullShare} f)
        ∗ Pipeline.scopedRestBut (Ix := Unit) (Name := ℕ) (U := UU) (Lvl := ℕ) (Val := Elt F) spec0 c [cc0_scratch0]) :=
  Pipeline.scopedRest_split_of_list spec0 c [cc0_scratch0] (by decide) (by decide)

/-- The invariant after any point gives the scoped rest back: the scratch's contents forgotten. -/
theorem inv_forget (c : Dev nD) (t : ℕ) :
    inv V c t ⊢ Pipeline.scopedRest (Ix := Unit) (Name := ℕ) (U := UU) (Lvl := ℕ) (Val := Elt F) spec0 c := by
  unfold inv
  split_ifs with h
  · exact .rfl
  · rw [rest_split]
    unfold holds
    rw [owns_whole_eq]
    iintro ⟨⟨%f, -, H⟩, Hr⟩
    isplitl [H]; · iexists f; iexact H
    iexact Hr

/-- The library's body obligation, at every point. -/
theorem body_obligation (c : Dev nD) : BodyObligation (dat V c) (defs₀ (F := F)) 𝒱₀ () Set.univ := fun t => by
  rw [bigSep_W0, bigSep_W0]
  rw [show (dat V c).owesAt () t.succ = (dat V c).owesAt () t.castSucc from rfl,
    show (dat V c).Φ t.castSucc = inv V c t.val from rfl, show (dat V c).Φ t.succ = inv V c (t.val + 1) from rfl]
  show _ ⊢ wp frame (wpE defs₀ 𝒱₀ c none) Set.univ (bodyAt0 t) _
  rw [show inv V c (t.val + 1) = iprop(holds c (Memref.whole cc0_scratch0) (scr V c)
    ∗ Pipeline.scopedRestBut (Ix := Unit) (Name := ℕ) (U := UU) (Lvl := ℕ) (Val := Elt F) spec0 c [cc0_scratch0]) from if_neg (Nat.succ_ne_zero _)]
  by_cases ht : t.val = 0
  · obtain rfl : t = t0 := Fin.ext ht
    rw [show inv V c t0.val = _ from if_pos rfl, rest_split]
    iintro ⟨⟨⟨%f, Hs⟩, Hr⟩, Howes, ⟨%d0, H0⟩, ⟨%d1, H1⟩, ⟨%d2, H2⟩, ⟨%d3, H3⟩, ⟨%d4, H4⟩, ⟨%d5, H5⟩, ⟨%d6, H6⟩⟩
    rw [before_in0, before_in1, before_in2, before_in3]
    iapply (run_first c (grid0.coords t0) _ _ _ _ _ _ _ _ _ _ _ _ _ _ _ _ (blk V c 0 t0) (blk V c 1 t0) (blk V c 2 t0) (blk V c 3 t0)
      branch_first f _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hs]; · unfold holds; rw [owns_whole_eq]; iexists f; isplitr; swap; (· iexact Hs); ipureintro; rfl
    iintro ⟨H0, H1, H2, H3, H4, H5, H6, Hs⟩
    isplitl [Hs Hr]; · isplitl [Hs] <;> iassumption
    isplitl [Howes]; · iexact Howes
    isplitl [H0]; · iexact H0
    isplitl [H1]; · iexact H1
    isplitl [H2]; · iexact H2
    isplitl [H3]; · iexact H3
    isplitl [H4]; · iexact H4
    isplitl [H5]; · iexact H5
    iexact H6
  · rw [show inv V c t.val = _ from if_neg ht]
    iintro ⟨⟨Hs, Hr⟩, Howes, ⟨%d0, H0⟩, ⟨%d1, H1⟩, ⟨%d2, H2⟩, ⟨%d3, H3⟩, ⟨%d4, H4⟩, ⟨%d5, H5⟩, ⟨%d6, H6⟩⟩
    rw [before_in0, before_in1, before_in2, before_in3]
    iapply (run_later c (grid0.coords t) _ _ _ _ _ _ _ _ _ _ _ _ _ _ _ _ (blk V c 0 t) (blk V c 1 t) (blk V c 2 t) (blk V c 3 t)
      (branch_later t ht) (scr V c) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hs]; · iexact Hs
    iintro ⟨H0, H1, H2, H3, H4, H5, H6, Hs⟩
    isplitl [Hs Hr]; · isplitl [Hs] <;> iassumption
    isplitl [Howes]; · iexact Howes
    isplitl [H0]; · iexact H0
    isplitl [H1]; · iexact H1
    isplitl [H2]; · iexact H2
    isplitl [H3]; · iexact H3
    isplitl [H4]; · iexact H4
    isplitl [H5]; · iexact H5
    iexact H6

end Cert.Proof.Pass1

end
-- ==== Proof.Pass2.lean ====
/-
  Pass 2 (`cc1__pass2_body`, pipeline 1 of @main): the body run by the executor at the first grid point, where it also fills its
  three scratch buffers — the int8 codes of `support2`, the scale row and the correction row — and at a later one, where it
  finds them as the first point left them.
-/
module

public import proofs.«01_k».proof.Proof.Common
public import Idealize.ShloMosaic.Lib.VecWindow

@[expose] public section

noncomputable section

namespace Cert.Proof.Pass2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- The body's branch word at a grid point: 1 at the first point. -/
abbrev branch (i : grid1.Coords) : BitVec 1 :=
  Scalar.cmpi .ne (Scalar.extui (Scalar.cmpi .eq (BitVec.ofNat 32 (i 0).val) 0#32) : BitVec 32) 0#32

section Run

variable (c : Dev nD) (i : grid1.Coords)
  (M1 : Memref sig .tc .vmem S1x400x10000 .i8) (h1 : M1.IsWhole)  (M2 : Memref sig .tc .vmem S10000x32 .f32) (h2 : M2.IsWhole)
  (M3 : Memref sig .tc .vmem S400x64 .f32) (h3 : M3.IsWhole)  (M4 : Memref sig .tc .vmem S96x40 .f32) (h4 : M4.IsWhole)
  (M5 : Memref sig .tc .vmem S1x32 .f32) (h5 : M5.IsWhole)  (M6 : Memref sig .tc .vmem S1x40 .f32) (h6 : M6.IsWhole)
  (M7 : Memref sig .tc .vmem S400x40 .f32) (h7 : M7.IsWhole)  (M8 : Memref sig .tc .vmem S10000x32 .i8) (h8 : M8.IsWhole)
  (M9 : Memref sig .tc .vmem S1x32 .f32) (h9 : M9.IsWhole)  (M10 : Memref sig .tc .vmem S1x32 .f32) (h10 : M10.IsWhole)
  (X1 : Vec F S1x400x10000 .i8) (X2 : Vec F S10000x32 .f32) (X3 : Vec F S400x64 .f32) (X4 : Vec F S96x40 .f32) (X5 : Vec F S1x32 .f32) (X6 : Vec F S1x40 .f32)

/-- A later point: the scratch buffers hold `S8`, `S9`, `S10`; the body leaves the result's block computed from them. -/
theorem run_later (hb : branch i ≠ 1#1) (S8 : Vec F S10000x32 .i8) (S9 : Vec F S1x32 .f32) (S10 : Vec F S1x32 .f32)
    (Y7 : Vec F S400x40 .f32) (E : Set ℕ) (Q : PUnit → sProp 𝕄) :
    iprop(holds c M1 X1 ∗ holds c M2 X2 ∗ holds c M3 X3 ∗ holds c M4 X4 ∗ holds c M5 X5 ∗ holds c M6 X6 ∗ holds c M7 Y7 ∗ holds c M8 S8 ∗ holds c M9 S9 ∗ holds c M10 S10
        ∗ (iprop(holds c M1 X1 ∗ holds c M2 X2 ∗ holds c M3 X3 ∗ holds c M4 X4 ∗ holds c M5 X5 ∗ holds c M6 X6 ∗ holds c M7 (k1_pay6 X1 S8 S9 S10 X3 X4 X6) ∗ holds c M8 S8 ∗ holds c M9 S9 ∗ holds c M10 S10) -∗ Q ⟨⟩))
      ⊢ wp frame (wpE (defs₀ (F := F)) Variants.none c none) E (cc1__pass2_body i M1 h1 M2 h2 M3 h3 M4 h4 M5 h5 M6 h6 M7 h7 M8 h8 M9 h9 M10 h10) Q := by
  rw [cc1__pass2_body_eq_skeleton]
  unfold cc1__pass2_body_skel
  rw [k1_part1_eq_skeleton]
  unfold k1_part1_skel holds owns
  rw [dif_neg hb]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, Hk⟩
  have r1 := (View.readAt_full M1.view f1 inb_S1x400x10000_S1x400x10000_0_0_0).trans e1
  have r2 := (View.readAt_full M2.view f2 inb_S10000x32_S10000x32_0_0).trans e2
  have r3 := (View.readAt_full M3.view f3 inb_S400x64_S400x64_0_0).trans e3
  have r4 := (View.readAt_full M4.view f4 inb_S96x40_S96x40_0_0).trans e4
  have r5 := (View.readAt_full M5.view f5 inb_S1x32_S1x32_0_0).trans e5
  have r6 := (View.readAt_full M6.view f6 inb_S1x40_S1x40_0_0).trans e6
  have r8 := (View.readAt_full M8.view f8 inb_S10000x32_S10000x32_0_0).trans e8
  have r9 := (View.readAt_full M9.view f9 inb_S1x32_S1x32_0_0).trans e9
  have r10 := (View.readAt_full M10.view f10 inb_S1x32_S1x32_0_0).trans e10
  sl_exec!
  sl_step
  iapply Hk
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  isplitl [H5]; · iexists f5; isplitr; swap; (· iexact H5); ipureintro; exact e5
  isplitl [H6]; · iexists f6; isplitr; swap; (· iexact H6); ipureintro; exact e6
  isplitl [H7]
  · iexists _; isplitr; swap; (· iexact H7); ipureintro
    unfold run_later.sl.H7_1
    exact View.read_writes_full _ _ _ _ _
  isplitl [H8]; · iexists f8; isplitr; swap; (· iexact H8); ipureintro; exact e8
  isplitl [H9]; · iexists f9; isplitr; swap; (· iexact H9); ipureintro; exact e9
  iexists f10; isplitr; swap; (· iexact H10); ipureintro; exact e10

/-- The first point: whatever the scratch buffers held, the body fills them from `support2` and `b2` and leaves the result's block
    computed from that. -/
theorem run_first (hb : branch i = 1#1) (Y8 : Vec F S10000x32 .i8) (Y9 : Vec F S1x32 .f32) (Y10 : Vec F S1x32 .f32)
    (Y7 : Vec F S400x40 .f32) (E : Set ℕ) (Q : PUnit → sProp 𝕄) :
    iprop(holds c M1 X1 ∗ holds c M2 X2 ∗ holds c M3 X3 ∗ holds c M4 X4 ∗ holds c M5 X5 ∗ holds c M6 X6 ∗ holds c M7 Y7 ∗ holds c M8 Y8 ∗ holds c M9 Y9 ∗ holds c M10 Y10
        ∗ (iprop(holds c M1 X1 ∗ holds c M2 X2 ∗ holds c M3 X3 ∗ holds c M4 X4 ∗ holds c M5 X5 ∗ holds c M6 X6 ∗ holds c M7 (k1_pay6 X1 (k1_pay3 X2) (k1_pay4 X2) (k1_pay5 X2 X5) X3 X4 X6) ∗ holds c M8 (k1_pay3 X2) ∗ holds c M9 (k1_pay4 X2) ∗ holds c M10 (k1_pay5 X2 X5)) -∗ Q ⟨⟩))
      ⊢ wp frame (wpE (defs₀ (F := F)) Variants.none c none) E (cc1__pass2_body i M1 h1 M2 h2 M3 h3 M4 h4 M5 h5 M6 h6 M7 h7 M8 h8 M9 h9 M10 h10) Q := by
  rw [cc1__pass2_body_eq_skeleton]
  unfold cc1__pass2_body_skel
  rw [k1_part1_eq_skeleton]
  unfold k1_part1_skel holds owns
  rw [dif_pos hb]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, Hk⟩
  have r1 := (View.readAt_full M1.view f1 inb_S1x400x10000_S1x400x10000_0_0_0).trans e1
  have r2 := (View.readAt_full M2.view f2 inb_S10000x32_S10000x32_0_0).trans e2
  have r3 := (View.readAt_full M3.view f3 inb_S400x64_S400x64_0_0).trans e3
  have r4 := (View.readAt_full M4.view f4 inb_S96x40_S96x40_0_0).trans e4
  have r5 := (View.readAt_full M5.view f5 inb_S1x32_S1x32_0_0).trans e5
  have r6 := (View.readAt_full M6.view f6 inb_S1x40_S1x40_0_0).trans e6
  sl_exec!
  sl_step
  iapply Hk
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  isplitl [H5]; · iexists f5; isplitr; swap; (· iexact H5); ipureintro; exact e5
  isplitl [H6]; · iexists f6; isplitr; swap; (· iexact H6); ipureintro; exact e6
  isplitl [H7]
  · iexists _; isplitr; swap; (· iexact H7); ipureintro
    unfold run_first.sl.H7_1
    rw [show run_first.sl.v5 c M8 X2 = k1_pay3 X2 from View.readCov_full _ _ _ _ _,
      show run_first.sl.v8 c M9 X2 = k1_pay4 X2 from View.readCov_full _ _ _ _ _,
      show run_first.sl.v11 c M10 X2 X5 = k1_pay5 X2 X5 from View.readCov_full _ _ _ _ _]
    exact View.read_writes_full _ _ _ _ _
  isplitl [H8]
  · iexists _; isplitr; swap; (· iexact H8); ipureintro
    unfold run_first.sl.H8_1
    exact View.read_writes_full _ _ _ _ _
  isplitl [H9]
  · iexists _; isplitr; swap; (· iexact H9); ipureintro
    unfold run_first.sl.H9_1
    exact View.read_writes_full _ _ _ _ _
  iexists _; isplitr; swap; (· iexact H10); ipureintro
  unfold run_first.sl.H10_1
  exact View.read_writes_full _ _ _ _ _

end Run

/-! ### The proof data of the region, entered from a valuation `V` -/

/-- The grid's first point. -/
abbrev t0 : Fin cfg1.N := ⟨0, by decide⟩

/-- The body's branch is taken at the first point. -/
theorem branch_first : branch (grid1.coords t0) = 1#1 := by decide

/-- And at no later one. -/
theorem branch_later : ∀ t : Fin grid1.N, t.val ≠ 0 → branch (grid1.coords t) ≠ 1#1 := by decide

variable (V : Dev nD → Valuation τ sig (Elt F))

/-- Window `w`'s block at point `t`: its array at the entry valuation, read through the block's view. -/
abbrev blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch buffers after the first point: the int8 codes of `support2`, the scale row, the correction row. -/
abbrev scrCodes (c : Dev nD) : Vec F S10000x32 .i8 := k1_pay3 (blk V c 1 t0)
abbrev scrScale (c : Dev nD) : Vec F S1x32 .f32 := k1_pay4 (blk V c 1 t0)
abbrev scrCorr (c : Dev nD) : Vec F S1x32 .f32 := k1_pay5 (blk V c 1 t0) (blk V c 4 t0)

/-- The invariant between points: before the first every scoped buffer that is not staged holds something; after it
    the three scratch buffers hold what the first point computed. -/
def inv (c : Dev nD) (t : ℕ) : sProp 𝕄 :=
  if t = 0 then Pipeline.scopedRest (Ix := Unit) (Name := ℕ) (U := UU) (Lvl := ℕ) (Val := Elt F) spec1 c
  else iprop(holds c (Memref.whole cc1_scratch0) (scrCodes V c) ∗ holds c (Memref.whole cc1_scratch1) (scrScale V c)
    ∗ holds c (Memref.whole cc1_scratch2) (scrCorr V c)
    ∗ Pipeline.scopedRestBut (Ix := Unit) (Name := ℕ) (U := UU) (Lvl := ℕ) (Val := Elt F) spec1 c [cc1_scratch0, cc1_scratch1, cc1_scratch2])

/-- The proof data of the region on core `c`. -/
def dat (c : Dev nD) : Dat τ (Elt F) Unit ℕ UU ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => k1_pay6 (blk V c 0 t) (scrCodes V c) (scrScale V c) (scrCorr V c) (blk V c 2 t) (blk V c 3 t) (blk V c 5 t)
  Φ t := inv V c t.val
  q _ := fullShare
  owed _ := 0

/-- Each input window holds its block when the body runs. -/
theorem before_in0 (c : Dev nD) (t d) : (dat V c).before 0 t d = blk V c 0 t :=
  (dat V c).before_in_eq_fetched 0 rfl (fun _ => rfl) (fun _ _ _ => rfl) (fun _ => rfl) t d
theorem before_in1 (c : Dev nD) (t d) : (dat V c).before 1 t d = blk V c 1 t :=
  (dat V c).before_in_eq_fetched 1 rfl (fun _ => rfl) (fun _ _ _ => rfl) (fun _ => rfl) t d
theorem before_in2 (c : Dev nD) (t d) : (dat V c).before 2 t d = blk V c 2 t :=
  (dat V c).before_in_eq_fetched 2 rfl (fun _ => rfl) (fun _ _ _ => rfl) (fun _ => rfl) t d
theorem before_in3 (c : Dev nD) (t d) : (dat V c).before 3 t d = blk V c 3 t :=
  (dat V c).before_in_eq_fetched 3 rfl (fun _ => rfl) (fun _ _ _ => rfl) (fun _ => rfl) t d
theorem before_in4 (c : Dev nD) (t d) : (dat V c).before 4 t d = blk V c 4 t :=
  (dat V c).before_in_eq_fetched 4 rfl (fun _ => rfl) (fun _ _ _ => rfl) (fun _ => rfl) t d
theorem before_in5 (c : Dev nD) (t d) : (dat V c).before 5 t d = blk V c 5 t :=
  (dat V c).before_in_eq_fetched 5 rfl (fun _ => rfl) (fun _ _ _ => rfl) (fun _ => rfl) t d

/-- The scoped rest split at the three scratch buffers. -/
theorem rest_split (c : Dev nD) :
    (Pipeline.scopedRest (Ix := Unit) (Name := ℕ) (U := UU) (Lvl := ℕ) (Val := Elt F) spec1 c : sProp 𝕄)
      = iprop(((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))
        ∗ Pipeline.scopedRestBut (Ix := Unit) (Name := ℕ) (U := UU) (Lvl := ℕ) (Val := Elt F) spec1 c [cc1_scratch0, cc1_scratch1, cc1_scratch2]) :=
  Pipeline.scopedRest_split_of_list spec1 c [cc1_scratch0, cc1_scratch1, cc1_scratch2] (by decide) (by decide)

/-- The invariant after any point gives the scoped rest back: the scratch buffers' contents forgotten. -/
theorem inv_forget (c : Dev nD) (t : ℕ) :
    inv V c t ⊢ Pipeline.scopedRest (Ix := Unit) (Name := ℕ) (U := UU) (Lvl := ℕ) (Val := Elt F) spec1 c := by
  unfold inv
  split_ifs with h
  · exact .rfl
  · rw [rest_split]
    unfold holds
    rw [owns_whole_eq, owns_whole_eq, owns_whole_eq]
    iintro ⟨⟨%f, -, H0⟩, ⟨%g, -, H1⟩, ⟨%h, -, H2⟩, Hr⟩
    isplitl [H0 H1 H2]
    · isplitl [H0]; · iexists f; iexact H0
      isplitl [H1]; · iexists g; iexact H1
      iexists h; iexact H2
    iexact Hr

/-- The library's body obligation, at every point. -/
theorem body_obligation (c : Dev nD) : BodyObligation (dat V c) (defs₀ (F := F)) 𝒱₀ () Set.univ := fun t => by
  rw [bigSep_W1, bigSep_W1]
  rw [show (dat V c).owesAt () t.succ = (dat V c).owesAt () t.castSucc from rfl,
    show (dat V c).Φ t.castSucc = inv V c t.val from rfl, show (dat V c).Φ t.succ = inv V c (t.val + 1) from rfl]
  show _ ⊢ wp frame (wpE defs₀ 𝒱₀ c none) Set.univ (bodyAt1 t) _
  rw [show inv V c (t.val + 1) = iprop(holds c (Memref.whole cc1_scratch0) (scrCodes V c) ∗ holds c (Memref.whole cc1_scratch1) (scrScale V c)
    ∗ holds c (Memref.whole cc1_scratch2) (scrCorr V c)
    ∗ Pipeline.scopedRestBut (Ix := Unit) (Name := ℕ) (U := UU) (Lvl := ℕ) (Val := Elt F) spec1 c [cc1_scratch0, cc1_scratch1, cc1_scratch2]) from if_neg (Nat.succ_ne_zero _)]
  by_cases ht : t.val = 0
  · obtain rfl : t = t0 := Fin.ext ht
    rw [show inv V c t0.val = _ from if_pos rfl, rest_split]
    iintro ⟨⟨⟨⟨%f0, Hs0⟩, ⟨%f1, Hs1⟩, ⟨%f2, Hs2⟩⟩, Hr⟩, Howes, ⟨%d0, H0⟩, ⟨%d1, H1⟩, ⟨%d2, H2⟩, ⟨%d3, H3⟩, ⟨%d4, H4⟩, ⟨%d5, H5⟩, ⟨%d6, H6⟩⟩
    rw [before_in0, before_in1, before_in2, before_in3, before_in4, before_in5]
    iapply (run_first c (grid1.coords t0) _ _ _ _ _ _ _ _ _ _ _ _ _ _ _ _ _ _ _ _
      (blk V c 0 t0) (blk V c 1 t0) (blk V c 2 t0) (blk V c 3 t0) (blk V c 4 t0) (blk V c 5 t0)
      branch_first f0 f1 f2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hs0]; · unfold holds; rw [owns_whole_eq]; iexists f0; isplitr; swap; (· iexact Hs0); ipureintro; rfl
    isplitl [Hs1]; · unfold holds; rw [owns_whole_eq]; iexists f1; isplitr; swap; (· iexact Hs1); ipureintro; rfl
    isplitl [Hs2]; · unfold holds; rw [owns_whole_eq]; iexists f2; isplitr; swap; (· iexact Hs2); ipureintro; rfl
    iintro ⟨H0, H1, H2, H3, H4, H5, H6, Hs0, Hs1, Hs2⟩
    isplitl [Hs0 Hs1 Hs2 Hr]
    · isplitl [Hs0]; · iexact Hs0
      isplitl [Hs1]; · iexact Hs1
      isplitl [Hs2]; · iexact Hs2
      iexact Hr
    isplitl [Howes]; · iexact Howes
    isplitl [H0]; · iexact H0
    isplitl [H1]; · iexact H1
    isplitl [H2]; · iexact H2
    isplitl [H3]; · iexact H3
    isplitl [H4]; · iexact H4
    isplitl [H5]; · iexact H5
    iexact H6
  · rw [show inv V c t.val = _ from if_neg ht]
    iintro ⟨⟨Hs0, Hs1, Hs2, Hr⟩, Howes, ⟨%d0, H0⟩, ⟨%d1, H1⟩, ⟨%d2, H2⟩, ⟨%d3, H3⟩, ⟨%d4, H4⟩, ⟨%d5, H5⟩, ⟨%d6, H6⟩⟩
    rw [before_in0, before_in1, before_in2, before_in3, before_in4, before_in5]
    iapply (run_later c (grid1.coords t) _ _ _ _ _ _ _ _ _ _ _ _ _ _ _ _ _ _ _ _
      (blk V c 0 t) (blk V c 1 t) (blk V c 2 t) (blk V c 3 t) (blk V c 4 t) (blk V c 5 t)
      (branch_later t ht) (scrCodes V c) (scrScale V c) (scrCorr V c) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hs0]; · iexact Hs0
    isplitl [Hs1]; · iexact Hs1
    isplitl [Hs2]; · iexact Hs2
    iintro ⟨H0, H1, H2, H3, H4, H5, H6, Hs0, Hs1, Hs2⟩
    isplitl [Hs0 Hs1 Hs2 Hr]
    · isplitl [Hs0]; · iexact Hs0
      isplitl [Hs1]; · iexact Hs1
      isplitl [Hs2]; · iexact Hs2
      iexact Hr
    isplitl [Howes]; · iexact Howes
    isplitl [H0]; · iexact H0
    isplitl [H1]; · iexact H1
    isplitl [H2]; · iexact H2
    isplitl [H3]; · iexact H3
    isplitl [H4]; · iexact H4
    isplitl [H5]; · iexact H5
    iexact H6

end Cert.Proof.Pass2

end
-- ==== Proof.Run.lean ====
/-
  The run of the optimised program: its host operations, pass 1, pass 2, as the segments of the pipeline library, over any float
  instance `F`. Every run ends with the arguments as launched, every counter at zero, and the result's buffer at what pass 2's
  write-backs leave.
-/
module

public import proofs.«01_k».proof.Proof.Pass1
public import proofs.«01_k».proof.Proof.Pass2
public import Idealize.ShloMosaic.Lib.Pipeline.RegionsLoop

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)

variable {F : FTy → Type} [FloatOps F] [Named F]

local notation "𝕄" => MT nD τ sig Unit (Elt F) ℕ UU ℕ

variable (m : (ℓ : Loc nD τ sig) → Buf (Elt F) ℓ)

/-! ### The buffers between the items -/

/-- Core `c`'s buffers when pass 1 is entered: after the host operations. -/
abbrev W1 (c : Dev nD) : Valuation τ sig (Elt F) := V1 m c

/-- When pass 2 is entered: pass 1's three results written. -/
def W2 (c : Dev nD) : Valuation τ sig (Elt F) :=
  Function.update (Function.update (Function.update (W1 m c) main_call0_v8_0 ((Pass1.dat (W1 m) c).arrAt 4 cfg0.N))
    main_call0_v8_1 ((Pass1.dat (W1 m) c).arrAt 5 cfg0.N)) main_call0_v8_2 ((Pass1.dat (W1 m) c).arrAt 6 cfg0.N)

/-- At the end: pass 2's result written. -/
def W3 (c : Dev nD) : Valuation τ sig (Elt F) :=
  Function.update (W2 m c) main_v0 ((Pass2.dat (W2 m) c).arrAt 6 cfg1.N)

theorem W2_of (c : Dev nD) (r : Ref sig .tc) (h : r ∉ ([main_call0_v8_0, main_call0_v8_1, main_call0_v8_2] : List (Ref sig .tc))) :
    W2 m c r = W1 m c r := by
  simp only [List.mem_cons, List.not_mem_nil, _root_.or_false, not_or] at h
  unfold W2
  rw [Function.update_of_ne (StableHlo.devRef_ne_of_ne h.2.2), Function.update_of_ne (StableHlo.devRef_ne_of_ne h.2.1),
    Function.update_of_ne (StableHlo.devRef_ne_of_ne h.1)]

theorem W3_of (c : Dev nD) (r : Ref sig .tc) (h : r ∉ ([main_v0] : List (Ref sig .tc))) : W3 m c r = W2 m c r := by
  simp only [List.mem_cons, List.not_mem_nil, _root_.or_false] at h
  unfold W3
  rw [Function.update_of_ne (StableHlo.devRef_ne_of_ne h)]

theorem W2_codes (c : Dev nD) : W2 m c main_call0_v8_2 = (Pass1.dat (W1 m) c).arrAt 6 cfg0.N :=
  Function.update_self _ _ _
theorem W2_s2 (c : Dev nD) : W2 m c main_call0_v8_1 = (Pass1.dat (W1 m) c).arrAt 5 cfg0.N :=
  (Function.update_of_ne (StableHlo.devRef_ne_of_ne (by decide)) _ _).trans (Function.update_self _ _ _)
theorem W2_x1 (c : Dev nD) : W2 m c main_call0_v8_0 = (Pass1.dat (W1 m) c).arrAt 4 cfg0.N :=
  (Function.update_of_ne (StableHlo.devRef_ne_of_ne (by decide)) _ _).trans
    ((Function.update_of_ne (StableHlo.devRef_ne_of_ne (by decide)) _ _).trans (Function.update_self _ _ _))
theorem W3_result (c : Dev nD) : W3 m c main_v0 = (Pass2.dat (W2 m) c).arrAt 6 cfg1.N :=
  Function.update_self _ _ _

/-- An argument reaches the end as launched: no item writes it. -/
theorem W3_arg (c : Dev nD) (r : Ref sig .tc) (h0 : r ∉ hostOps0_W)
    (h : r ∉ ([main_call0_v8_0, main_call0_v8_1, main_call0_v8_2] : List (Ref sig .tc))) (h' : r ∉ ([main_v0] : List (Ref sig .tc))) :
    W3 m c r = m ((c : Thread nD τ).loc r) :=
  (W3_of m c r h').trans ((W2_of m c r h).trans ((V1_of m c r h0).trans rfl))

attribute [local irreducible] W2 W3

/-! ### The two regions -/

/-- Both passes' proof data, each at the valuation it is entered from. -/
def pdats : (p : Fin 2) → (c : Dev nD) → Dat τ (Elt F) Unit ℕ UU ℕ (cfgs p) c
  | ⟨0, _⟩ => fun c => Pass1.dat (W1 m) c
  | ⟨1, _⟩ => fun c => Pass2.dat (W2 m) c

set_option backward.isDefEq.respectTransparency.types false in
/-- Pass 1 as a segment: entered from the unscoped buffers at `W1`, left with them at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Pass1.body_obligation (W1 m) c).loose
  hwaits := Pipeline.hwaits_of_owed_zero _ _ _ _ L lv 0 fun _ _ => rfl
  pre c := iprop(unscopedBufs c (fun b => W1 m c b) ∗ Rest c)
  post c := iprop(unscopedBufs c (fun b => W2 m c b) ∗ Rest c)
  X _ := BI.emp
  Y _ := BI.emp
  Z c := Pipeline.unscopedRest (Ix := Unit) (Name := ℕ) (U := UU) (Lvl := ℕ) spec0 c (fun b => W1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => W1 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pass1.inv (W1 m) c 0 from rfl]
    unfold Pass1.inv
    rw [if_pos rfl]
    iintro ⟨-, -, Hr⟩; iexact Hr
  hout c := by
    rw [Pipeline.ownSems0_none, show (pdats m 0 c).Φ (Fin.last _) = Pass1.inv (W1 m) c cfg0.N from rfl]
    iintro Hr
    isplitr; · iempintro
    isplitr; · iempintro
    iapply (Pass1.inv_forget (W1 m) c cfg0.N); iexact Hr
  hexit c := by
    have hjoin := Pipeline.unscopedBufs_of_arrays (p := 0) (pcfgs (F := F)) adm (Ix := Unit) (Name := ℕ) (U := UU) (Lvl := ℕ) launch0.win launch0.arr_whole c
      (pdats m) ((pdats m 0 c).share_full fun _ => rfl) (fun b => W1 m c b) (fun b => W2 m c b) ((pdats m 0 c).arrAt · cfg0.N)
      (fun w => by
        fin_cases w
        · exact ((pdats m 0 c).arrAt_in 0 rfl _).trans (W2_of m c main_arg0 (by decide)).symm
        · exact ((pdats m 0 c).arrAt_in 1 rfl _).trans (W2_of m c main_arg1 (by decide)).symm
        · exact ((pdats m 0 c).arrAt_in 2 rfl _).trans (W2_of m c main_call0_v1 (by decide)).symm
        · exact ((pdats m 0 c).arrAt_in 3 rfl _).trans (W2_of m c main_call0_v4 (by decide)).symm
        · exact (W2_x1 m c).symm
        · exact (W2_s2 m c).symm
        · exact (W2_codes m c).symm)
      (fun b hb => W2_of m c b fun h => hb (by
        simp only [List.mem_cons, List.not_mem_nil, _root_.or_false] at h
        rcases h with rfl | rfl | rfl
        · exact Finset.mem_image.mpr ⟨4, Finset.mem_univ _, rfl⟩
        · exact Finset.mem_image.mpr ⟨5, Finset.mem_univ _, rfl⟩
        · exact Finset.mem_image.mpr ⟨6, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- Pass 2 as a segment: entered from the unscoped buffers at `W2`, left with them at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Pass2.body_obligation (W2 m) c).loose
  hwaits := Pipeline.hwaits_of_owed_zero _ _ _ _ L lv 1 fun _ _ => rfl
  pre c := iprop(unscopedBufs c (fun b => W2 m c b) ∗ Rest c)
  post c := iprop(unscopedBufs c (fun b => W3 m c b) ∗ Rest c)
  X _ := BI.emp
  Y _ := BI.emp
  Z c := Pipeline.unscopedRest (Ix := Unit) (Name := ℕ) (U := UU) (Lvl := ℕ) spec1 c (fun b => W2 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => W2 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Pass2.inv (W2 m) c 0 from rfl]
    unfold Pass2.inv
    rw [if_pos rfl]
    iintro ⟨-, -, Hr⟩; iexact Hr
  hout c := by
    rw [Pipeline.ownSems0_none, show (pdats m 1 c).Φ (Fin.last _) = Pass2.inv (W2 m) c cfg1.N from rfl]
    iintro Hr
    isplitr; · iempintro
    isplitr; · iempintro
    iapply (Pass2.inv_forget (W2 m) c cfg1.N); iexact Hr
  hexit c := by
    have hjoin := Pipeline.unscopedBufs_of_arrays (p := 1) (pcfgs (F := F)) adm (Ix := Unit) (Name := ℕ) (U := UU) (Lvl := ℕ) launch1.win launch1.arr_whole c
      (pdats m) ((pdats m 1 c).share_full fun _ => rfl) (fun b => W2 m c b) (fun b => W3 m c b) ((pdats m 1 c).arrAt · cfg1.N)
      (fun w => by
        fin_cases w
        · exact ((pdats m 1 c).arrAt_in 0 rfl _).trans (W3_of m c main_call0_v8_2 (by decide)).symm
        · exact ((pdats m 1 c).arrAt_in 1 rfl _).trans (W3_of m c main_call0_v8_1 (by decide)).symm
        · exact ((pdats m 1 c).arrAt_in 2 rfl _).trans (W3_of m c main_call0_v8_0 (by decide)).symm
        · exact ((pdats m 1 c).arrAt_in 3 rfl _).trans (W3_of m c main_call0_v5 (by decide)).symm
        · exact ((pdats m 1 c).arrAt_in 4 rfl _).trans (W3_of m c main_call0_v6 (by decide)).symm
        · exact ((pdats m 1 c).arrAt_in 5 rfl _).trans (W3_of m c main_call0_v7 (by decide)).symm
        · exact (W3_result m c).symm)
      (fun b hb => W3_of m c b fun h => hb (by
        simp only [List.mem_cons, List.not_mem_nil, _root_.or_false] at h
        rcases h with rfl
        · exact Finset.mem_image.mpr ⟨6, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ### The launch -/

/-- The launch's ghost state: the pipelines' cells and tokens. -/
abbrev u₀ : UU := (initOf (Pipeline.cells cfgs cellOf_inj) (Pipeline.launchToks cfgs cellOf_inj), 1)

abbrev EP : Emb (URounds (GSem nD τ sig) Unit) 𝕄 := embL

/-- What every final state of the run satisfies on core `c`: the result's buffer at `W3`, each argument as launched. -/
def Ends (c : Dev nD) (s : MemSt nD τ sig (Elt F)) : Prop :=
  s.mem ((c.tc : Thread nD τ).loc main_v0) = W3 m c main_v0
    ∧ ∀ r ∈ ([main_arg0, main_arg1, main_arg2, main_arg3, main_arg4, main_arg5, main_arg6, main_arg7] : List (Ref sig .tc)), s.mem ((c.tc : Thread nD τ).loc r) = m ((c.tc : Thread nD τ).loc r)

set_option backward.isDefEq.respectTransparency.types false in
/-- THE RUN. Every weakly fair execution of @main from memory `m` with zero counters terminates, and every final state has the
    result at `W3`, each argument as launched and every counter at zero. -/
theorem run_main (ρ : Dev nD → PrngReg) :
    θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (pdats m) () cellOf_inj EP defs₀ 𝒱₀ L lv m ρ main
    (segs m 𝒱₀ L lv (fun _ => Rest) () (pdats m) (reg0 m) (reg1 m))
    (fun c Q => by
      rewrite [main_chain c, Seg.run_eq_chain,
        show (segs m 𝒱₀ L lv (fun _ => Rest) () (pdats m) (reg0 m) (reg1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide)
    (O₀ := 0) (hL := fun _ _ => rfl) (G := fun _ => BI.emp) (u₀ := u₀) (hu₀ := ?_)
    (T₀ := fun c => iprop(StableHlo.held (c : Thread nD τ) (Pipeline.ucRefs τ sig) (V0 m c) ∗ Rest c))
    (Tₙ := fun c => StableHlo.held (c : Thread nD τ) (Pipeline.ucRefs τ sig) (W3 m c))
    (hch := fun c => ⟨.rfl, ?_, .rfl, ?_⟩)
    (hinit := ?_) (QY := fun c s => Ends m c s)
    (hfin := fun c s' => ?_) (hQ := fun _ h hz => ⟨h, funext fun g => hz g (.inr (regions_no_unscoped g.2))⟩)
  · -- the launch's ghost state, split
    unfold u₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · -- into pass 1
    exact sep_mono (Entails.of_eq (Pipeline.unscopedBufs_held c (V1 m c)).symm) .rfl
  · -- out of pass 2
    exact sep_mono (Entails.of_eq (Pipeline.unscopedBufs_held c (W3 m c))) .rfl
  · -- the launch: the unscoped buffers are `held` at `V0`
    refine Pipeline.initEach L lv fun c => ?_
    rw [show unscopedBufs c (fun b => m ((c.tc : Thread nD τ).loc b)) = StableHlo.held (c : Thread nD τ) (Pipeline.ucRefs τ sig) (V0 m c)
      from Pipeline.unscopedBufs_held c (V0 m c)]
    iintro ⟨⟨Hh, -, HO, -, -, -⟩, -⟩
    imodintro
    isplitl [Hh]; · iexact Hh
    iexists ∅; iexact HO
  · -- the end: the buffers read off the last valuation
    unfold StableHlo.held
    iintro ⟨Hh, HSI⟩
    ihave Hr := (pointsTo_read_all (Pipeline.ucRefs τ sig) (fun b => ((c : Thread nD τ).1, b)) (W3 m c) s') $$ [Hh HSI]
    · isplitl [Hh] <;> iassumption
    icases Hr with ⟨%h, HSI⟩
    imodintro
    isplitr
    · ipureintro
      refine ⟨h (Proc.devRef .tc main_v0) (Finset.mem_filter.mpr ⟨StableHlo.devRef_mem_tcRefs main_v0, by decide⟩), fun r hr => ?_⟩
      have key := (by decide : ∀ r ∈ ([main_arg0, main_arg1, main_arg2, main_arg3, main_arg4, main_arg5, main_arg6, main_arg7] : List (Ref sig .tc)), (¬ (Proc.devRef (τ := τ) .tc r).isScoped)
        ∧ r ∉ hostOps0_W ∧ r ∉ ([main_call0_v8_0, main_call0_v8_1, main_call0_v8_2] : List (Ref sig .tc)) ∧ r ∉ ([main_v0] : List (Ref sig .tc))) r hr
      exact (h (Proc.devRef .tc r) (Finset.mem_filter.mpr ⟨StableHlo.devRef_mem_tcRefs r, key.1⟩)).trans
        (W3_arg m c r key.2.1 key.2.2.1 key.2.2.2)
    · iexact HSI

end Cert.Proof

end
-- ==== Proof.Frames.lean ====
/- The four claims that say nothing of values: each program ends without fault, its arguments as they were and its
   counters at zero, and the idealised kernel differs from the kernel by named constants alone. -/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Proof

open Idealize.ShloMosaic Idealize.ShloMosaic.TcCoe Idealize.SL.Sem

/-- At the float words a named constant is read as the word that stands at its site: with this reading the idealised
    kernel's text is the kernel's. -/
@[reducible] def namedBits : Named Bits := ⟨fun _ _ {_} b => Scalar.ofBits _ b⟩

/-- The idealised kernel ends without fault, its arguments unchanged, every counter at zero. -/
theorem frame_kernelIdeal : Cert.quiescent_KernelIdeal := fun m ρ _ =>
  (θ_run Cert.KernelIdeal.defs _ _).mono (fun _ h => ⟨fun c => by
    have e := (h.1 c).2
    simpa using e, h.2⟩) (run_main (F := Ideal) m ρ)

/-- The two programs' @main is one text. -/
theorem main_same : letI := namedBits; Cert.KernelIdeal.main (F := Bits) = Cert.Kernel.main (F := Bits) := rfl

set_option maxHeartbeats 1000000 in
/-- So are the two kernel bodies, with the named constants read as their words. -/
theorem bodies_same : letI := namedBits; Cert.KernelIdeal.defs₀ (F := Bits) = Cert.Kernel.defs₀ (F := Bits) := by
  unfold Cert.KernelIdeal.defs₀ Cert.Kernel.defs₀
  refine congrArg Defs.onTc ?_
  funext l a
  match l, a with
  | 0, (t, s) => rfl
  | 1, (t, s) => rfl

/-- And so are the programs' functions: the pipelines around those bodies. -/
theorem defs_same : letI := namedBits; Cert.KernelIdeal.defs (F := Bits) = Cert.Kernel.defs (F := Bits) := by
  letI := namedBits
  exact congrArg (Pipeline.defs (Cert.Kernel.pcfgs (F := Bits))) bodies_same

/-- The kernel does: its run is that of the idealised kernel at the float words, each named constant its word. -/
theorem frame_kernel : Cert.quiescent_Kernel := fun m ρ _ => by
  letI := namedBits
  have h := run_main (F := Bits) m ρ
  rewrite [defs_same] at h
  refine (θ_run Cert.Kernel.defs _ _).mono (fun _ h => ⟨fun c => ?_, h.2⟩) h
  have e := (h.1 c).2
  simpa using e

/-- The reference does: it is host operations alone. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The three named constants stand for 1 / 20000, 1 / 127 and 1 / 2540000. -/
theorem preserves : Cert.preserves_Kernel_KernelIdeal :=
  ⟨IdealRules.named_const.statement Cert.KernelIdeal.κ "off" .f32 0x3851B717#32 ((1 / 20000 : ℝ) : EReal) rfl,
    IdealRules.named_const.statement Cert.KernelIdeal.κ "inv_127" .f32 0x3C010204#32 ((1 / 127 : ℝ) : EReal) rfl,
    IdealRules.named_const.statement Cert.KernelIdeal.κ "inv_s" .f32 0x34D35DD3#32 ((1 / 2540000 : ℝ) : EReal) rfl⟩

end Cert.Proof

end
-- ==== Proof.Reals.lean ====
/- The real numbers that the graph convolution computes, and how finite extended reals follow them. -/
module

public import Idealize.ShloMosaic.PureOps.Ideal.Laws
public import Idealize.ShloMosaic.PureOps.Ideal

@[expose] public section

noncomputable section

namespace Cert.Proof

open Idealize.ShloMosaic

/-! ## Finite extended reals -/

/-- A sum of reals is taken among the extended reals as among the reals. -/
theorem sum_coe {n : ℕ} (f : Fin n → ℝ) : ∑ k, ((f k : ℝ) : EReal) = ((∑ k, f k : ℝ) : EReal) :=
  (map_sum (⟨⟨Real.toEReal, EReal.coe_zero⟩, EReal.coe_add⟩ : ℝ →+ EReal) f Finset.univ).symm

/-- A sum of products, each factor a real. -/
theorem dot_coe {n : ℕ} (a b : Fin n → EReal) (f g : Fin n → ℝ) (ha : ∀ k, a k = f k) (hb : ∀ k, b k = g k) :
    ∑ k, a k * b k = ((∑ k, f k * g k : ℝ) : EReal) := by
  rw [← sum_coe]
  exact Finset.sum_congr rfl fun k _ => by rw [ha, hb, EReal.coe_mul]

/-- The greatest of finitely many reals (zero for none). -/
def top {n : ℕ} (f : Fin n → ℝ) : ℝ := (Finset.univ.fold max (⊥ : EReal) fun k => ((f k : ℝ) : EReal)).toReal

/-- The maximum of a family of reals, folded from -∞, is `top` of it. -/
theorem fold_max_coe {n : ℕ} [NeZero n] (f : Fin n → ℝ) :
    Finset.univ.fold max (⊥ : EReal) (fun k => ((f k : ℝ) : EReal)) = (top f : EReal) := by
  refine (EReal.coe_toReal (ne_of_lt ?_) (ne_of_gt ?_)).symm
  · rw [Finset.fold_max_lt]
    exact ⟨bot_lt_top, fun k _ => EReal.coe_lt_top _⟩
  · rw [Finset.lt_fold_max]
    exact .inr ⟨0, Finset.mem_univ _, EReal.bot_lt_coe _⟩

theorem fold_max_of_coe {n : ℕ} [NeZero n] (a : Fin n → EReal) (f : Fin n → ℝ) (h : ∀ k, a k = f k) :
    Finset.univ.fold max (⊥ : EReal) a = (top f : EReal) := by
  rw [show a = fun k => ((f k : ℝ) : EReal) from funext h, fold_max_coe]

/-- A magnitude. -/
theorem abs_coe (r : ℝ) : max (r : EReal) (-(r : EReal)) = ((|r| : ℝ) : EReal) := by
  rw [← EReal.coe_neg, abs_eq_max_neg]
  exact (EReal.coe_strictMono.monotone.map_max).symm

theorem max_coe (r s : ℝ) : max (r : EReal) (s : EReal) = ((max r s : ℝ) : EReal) :=
  (EReal.coe_strictMono.monotone.map_max).symm

theorem min_coe (r s : ℝ) : min (r : EReal) (s : EReal) = ((min r s : ℝ) : EReal) :=
  (EReal.coe_strictMono.monotone.map_min).symm

/-- Division of reals, the divisor not zero. -/
theorem div_real (r s : ℝ) (hs : s ≠ 0) : Ideal.div (r : EReal) (s : EReal) = ((r / s : ℝ) : EReal) := by
  rw [Ideal.div, if_neg (by exact_mod_cast hs), ← EReal.coe_inv, ← EReal.coe_mul, div_eq_mul_inv]

/-! ## The words of the two programs' constants -/

theorem w_one : Ideal.ofBits .f32 0x3F800000#32 = ((1 : ℝ) : EReal) := by
  simp [Ideal.ofBits, Ideal.ieee, -EReal.coe_mul]; norm_num
theorem w_two : Ideal.ofBits .f32 0x40000000#32 = ((2 : ℝ) : EReal) := by
  simp [Ideal.ofBits, Ideal.ieee, -EReal.coe_mul]; norm_num
theorem w_127 : Ideal.ofBits .f32 0x42FE0000#32 = ((127 : ℝ) : EReal) := by
  simp [Ideal.ofBits, Ideal.ieee, -EReal.coe_mul]; norm_num
theorem w_neg127 : Ideal.ofBits .f32 0xC2FE0000#32 = ((-127 : ℝ) : EReal) := by
  simp [Ideal.ofBits, Ideal.ieee, -EReal.coe_mul]; norm_num
theorem w_10000 : Ideal.ofBits .f32 0x461C4000#32 = ((10000 : ℝ) : EReal) := by
  simp [Ideal.ofBits, Ideal.ieee, -EReal.coe_mul]; norm_num
theorem w_20000 : Ideal.ofBits .f32 0x469C4000#32 = ((20000 : ℝ) : EReal) := by
  simp [Ideal.ofBits, Ideal.ieee, -EReal.coe_mul]; norm_num
theorem w_2540000 : Ideal.ofBits .f32 0x4A1B0780#32 = ((2540000 : ℝ) : EReal) := by
  simp [Ideal.ofBits, Ideal.ieee, -EReal.coe_mul]; norm_num
theorem w_two26 : Ideal.ofBits .f32 0x4C800000#32 = ((67108864 : ℝ) : EReal) := by
  simp [Ideal.ofBits, Ideal.ieee, -EReal.coe_mul]; norm_num
theorem w_inf : Ideal.ofBits .f32 0x7F800000#32 = ⊤ := by simp [Ideal.ofBits, Ideal.ieee]
theorem w_neg_inf : Ideal.ofBits .f32 0xFF800000#32 = ⊥ := by simp [Ideal.ofBits, Ideal.ieee]

/-- The least column maximum that the quantiser divides by: the single-precision number nearest 1e-30. -/
def tiny : ℝ := 10633824 / 2 ^ 123
theorem tiny_pos : 0 < tiny := by unfold tiny; positivity
theorem w_tiny : Ideal.ofBits .f32 0x0DA24260#32 = ((tiny : ℝ) : EReal) := by
  unfold tiny
  simp [Ideal.ofBits, Ideal.ieee, -EReal.coe_mul]; norm_num

/-! ## The int8 codes -/

/-- An int8 code: rounded to the nearest whole number, ties to even, and clipped to ±127. -/
def code (r : ℝ) : ℤ := min 127 (max (-127) (Ideal.roundHalfEven r))

theorem code_le (r : ℝ) : code r ≤ 127 := min_le_left _ _
theorem neg_le_code (r : ℝ) : -127 ≤ code r := le_min (by norm_num) (le_max_left _ _)

/-- The rounded and clipped extended real is the code. -/
theorem clip_coe (r : ℝ) :
    min ((127 : ℝ) : EReal) (max ((-127 : ℝ) : EReal) (Ideal.liftRound Ideal.roundHalfEven (r : EReal))) = (((code r : ℤ) : ℝ) : EReal) := by
  rw [Ideal.liftRound_coe, max_coe, min_coe]
  unfold code
  push_cast
  rfl

/-- Converted to an int8 word, a code is that word's integer. -/
theorem toInt_fptosi_code (r : ℝ) : (Ideal.fptosi 8 ((((code r : ℤ) : ℝ) : EReal))).toInt = code r := by
  have h1 := code_le r
  have h2 := neg_le_code r
  generalize code r = z at *
  have hz : (if (0 : ℝ) ≤ (z : ℝ) then ⌊(z : ℝ)⌋ else ⌈(z : ℝ)⌉) = z := by split <;> simp
  rw [Ideal.fptosi, Ideal.toIntClamped_coe, hz, BitVec.toInt_ofInt]
  norm_num
  rw [min_eq_right h1, max_eq_right (by omega)]
  exact Int.bmod_eq_of_le (by omega) (by omega)

/-! ## The graph convolution -/

/-- An affine map followed by a linear one. -/
theorem affine_assoc {J H : Type} [Fintype J] [Fintype H] (a : J → ℝ) (u : J → H → ℝ) (b w : H → ℝ) :
    ∑ j, a j * ∑ h, u j h * w h + ∑ h, b h * w h = ∑ h, (∑ j, a j * u j h + b h) * w h := by
  simp only [add_mul, Finset.sum_add_distrib, Finset.mul_sum, Finset.sum_mul]
  rw [Finset.sum_comm]
  simp only [mul_assoc]

/-- The eight arguments, as reals. -/
structure Data where
  x : Fin 10000 → Fin 128 → ℝ
  adj : Fin 10000 → Fin 10000 → ℝ
  w1 : Fin 128 → Fin 64 → ℝ
  b1 : Fin 64 → ℝ
  w2 : Fin 64 → Fin 32 → ℝ
  b2 : Fin 32 → ℝ
  wl : Fin 40 → Fin 96 → ℝ
  bl : Fin 40 → ℝ

namespace Data

variable (D : Data)

/-- The features times the first layer's weights. -/
def xw (j : Fin 10000) (h : Fin 64) : ℝ := ∑ f, D.x j f * D.w1 f h

/-- The first layer's result. -/
def x1 (i : Fin 10000) (h : Fin 64) : ℝ := ∑ j, D.adj i j * D.xw j h + D.b1 h

/-- The second layer's support. -/
def s2 (i : Fin 10000) (k : Fin 32) : ℝ := ∑ h, D.x1 i h * D.w2 h k

/-- The adjacency's codes: an entry is about 1/20000 + code/2540000. -/
def qa (i j : Fin 10000) : ℤ := code ((D.adj i j * 20000 - 1) * 127)

/-- A support column's scale. -/
def scale (k : Fin 32) : ℝ := max (top fun j => |D.s2 j k|) tiny / 127

/-- The support's codes: an entry is about code * scale. -/
def qs (j : Fin 10000) (k : Fin 32) : ℤ := code (D.s2 j k / D.scale k)

/-- The second layer's result, from the codes. -/
def x2 (i : Fin 10000) (k : Fin 32) : ℝ :=
  ∑ j, ((D.qa i j : ℝ) / 2540000) * ((D.qs j k : ℝ) * D.scale k) + (∑ j, D.s2 j k) / 10000 / 2 + D.b2 k

/-- The two layers' results side by side, the second first. -/
def cat (i : Fin 10000) (q : Fin 96) : ℝ := if h : q.val < 32 then D.x2 i ⟨q, h⟩ else D.x1 i ⟨q - 32, by omega⟩

/-- The last, linear layer. -/
def o (i : Fin 10000) (c : Fin 40) : ℝ := ∑ q, D.cat i q * D.wl c q + D.bl c

/-- Its log-softmax: the network's result. -/
def y (i : Fin 10000) (c : Fin 40) : ℝ := D.o i c - top (D.o i) - Real.log (∑ c', Real.exp (D.o i c' - top (D.o i)))

theorem scale_pos (k : Fin 32) : 0 < D.scale k := div_pos (lt_max_of_lt_right tiny_pos) (by norm_num)

/-! ## The kernel's ways of writing these -/

/-- The support, the weights multiplied first. -/
theorem s2_of_weights (i : Fin 10000) (k : Fin 32) :
    ∑ j, D.adj i j * (∑ f, D.x j f * ∑ h, D.w1 f h * D.w2 h k) + ∑ h, D.b1 h * D.w2 h k = D.s2 i k := by
  have e : ∀ j, ∑ f, D.x j f * ∑ h, D.w1 f h * D.w2 h k = ∑ h, D.xw j h * D.w2 h k := fun j => by
    simp only [xw, Finset.mul_sum, Finset.sum_mul]
    rw [Finset.sum_comm]
    exact Finset.sum_congr rfl fun h _ => Finset.sum_congr rfl fun f _ => by ring
  simp only [e]
  exact affine_assoc (D.adj i) D.xw D.b1 fun h => D.w2 h k

/-- An adjacency code, the offset subtracted before the scaling. -/
theorem qa_of_offset (i j : Fin 10000) : code ((D.adj i j - 1 / 20000) * 2540000) = D.qa i j := by
  unfold qa; congr 1; ring

/-- The second layer's result, from the sum of the codes' products. -/
theorem x2_of_codes (i : Fin 10000) (k : Fin 32) :
    ((∑ j, D.qa i j * D.qs j k : ℤ) : ℝ) * (D.scale k * (1 / 2540000)) + ((∑ j, D.s2 j k) * (1 / 20000) + D.b2 k) = D.x2 i k := by
  have e : ∑ j, ((D.qa i j : ℝ) / 2540000) * ((D.qs j k : ℝ) * D.scale k) = (∑ j, (D.qa i j : ℝ) * D.qs j k) * (D.scale k * (1 / 2540000)) := by
    rw [Finset.sum_mul]
    exact Finset.sum_congr rfl fun j _ => by ring
  rw [x2, e]
  push_cast
  ring

/-- The log-softmax, the maximum added back to the logarithm. -/
theorem y_of_lse (i : Fin 10000) (c : Fin 40) :
    D.o i c - (Real.log (∑ c', Real.exp (D.o i c' - top (D.o i))) + top (D.o i)) = D.y i c := by
  unfold y; ring

/-- The weights pass 1 multiplies by, side by side: the first layer's and their product with the second's. -/
def wc (f : Fin 128) (q : Fin 96) : ℝ := if h : q.val < 64 then D.w1 f ⟨q, h⟩ else ∑ h, D.w1 f h * D.w2 h ⟨q - 64, by omega⟩

/-- The biases that go with them. -/
def bc (q : Fin 96) : ℝ := if h : q.val < 64 then D.b1 ⟨q, h⟩ else ∑ h, D.b1 h * D.w2 h ⟨q - 64, by omega⟩

theorem x1_of_cols (i : Fin 10000) (h : Fin 64) (q : Fin 96) (hq : q.val = h.val) :
    ∑ j, D.adj i j * (∑ f, D.x j f * D.wc f q) + D.bc q = D.x1 i h := by
  obtain ⟨q, hq'⟩ := q
  subst hq
  simp only [wc, bc, dif_pos h.isLt]
  rfl

theorem s2_of_cols (i : Fin 10000) (k : Fin 32) (q : Fin 96) (hq : q.val = 64 + k.val) :
    ∑ j, D.adj i j * (∑ f, D.x j f * D.wc f q) + D.bc q = D.s2 i k := by
  obtain ⟨q, hq'⟩ := q
  subst hq
  simp only [wc, bc, dif_neg (show ¬ 64 + k.val < 64 by omega), Nat.add_sub_cancel_left]
  exact D.s2_of_weights i k

/-- The last layer, the two halves of its sum apart. -/
theorem o_of_halves (i : Fin 10000) (c : Fin 40) :
    ∑ k : Fin 32, D.x2 i k * D.wl c ⟨k, by omega⟩ + ∑ h : Fin 64, D.x1 i h * D.wl c ⟨32 + h, by omega⟩ + D.bl c = D.o i c := by
  have e : ∑ q : Fin 96, D.cat i q * D.wl c q = ∑ q : Fin (32 + 64), D.cat i q * D.wl c q := rfl
  rw [o, e, Fin.sum_univ_add]
  refine congrArg (· + D.bl c) (congrArg₂ (· + ·) (Finset.sum_congr rfl fun k _ => ?_) (Finset.sum_congr rfl fun h _ => ?_))
  · rw [cat, dif_pos (show (Fin.castAdd 64 k).val < 32 from k.isLt)]; rfl
  · rw [cat, dif_neg (show ¬ (Fin.natAdd 32 h).val < 32 by simp)]
    simp only [Fin.val_natAdd, Nat.add_sub_cancel_left]
    rfl

theorem sum_exp_pos {n : ℕ} [NeZero n] (f : Fin n → ℝ) : 0 < ∑ c, Real.exp (f c) :=
  Finset.sum_pos (fun _ _ => Real.exp_pos _) ⟨0, Finset.mem_univ _⟩

end Data

end Cert.Proof

end
-- ==== Proof.Reference.lean ====
/- What the reference computes of finite arguments: each of its stages as the real numbers of `Data`. -/
module

public import proofs.«01_k».proof.Proof.Reals
public import proofs.«01_k».proof.Proof.Gen.ReferenceIdeal.Read
public import Idealize.ShloMosaic.Lib.Pointwise

@[expose] public section

set_option maxRecDepth 16384

noncomputable section

namespace Cert.Proof

open Idealize.ShloMosaic Idealize.ShloMosaic.Pointwise Cert.ReferenceIdeal Cert.ReferenceIdeal.Gen Cert.ReferenceIdeal.Read

/-- Eight arrays that hold the data, every entry a real number. -/
structure Reads (D : Data) (x0 : S10000x128.Idx → EReal) (x1 : S10000x10000.Idx → EReal) (x2 : S128x64.Idx → EReal)
    (x3 : S64.Idx → EReal) (x4 : S64x32.Idx → EReal) (x5 : S32.Idx → EReal) (x6 : S40x96.Idx → EReal) (x7 : S40.Idx → EReal) : Prop where
  x : ∀ i, x0 i = (D.x (i 0) (i 1) : EReal)
  adj : ∀ i, x1 i = (D.adj (i 0) (i 1) : EReal)
  w1 : ∀ i, x2 i = (D.w1 (i 0) (i 1) : EReal)
  b1 : ∀ i, x3 i = (D.b1 (i 0) : EReal)
  w2 : ∀ i, x4 i = (D.w2 (i 0) (i 1) : EReal)
  b2 : ∀ i, x5 i = (D.b2 (i 0) : EReal)
  wl : ∀ i, x6 i = (D.wl (i 0) (i 1) : EReal)
  bl : ∀ i, x7 i = (D.bl (i 0) : EReal)

namespace Ref

variable {D : Data} {x0 : S10000x128.Idx → EReal} {x1 : S10000x10000.Idx → EReal} {x2 : S128x64.Idx → EReal}
  {x3 : S64.Idx → EReal} {x4 : S64x32.Idx → EReal} {x5 : S32.Idx → EReal} {x6 : S40x96.Idx → EReal} {x7 : S40.Idx → EReal}
  (h : Reads D x0 x1 x2 x3 x4 x5 x6 x7)
include h

theorem xw_eq (i) : val_main_v0 (F := Ideal) x0 x2 i = (D.xw (i 0) (i 1) : EReal) := by
  rw [val_main_v0_apply]
  exact dot_coe _ _ _ _ (fun f => h.x _) fun f => h.w1 _

theorem x1_eq (i) : val_main_v4 (F := Ideal) x0 x1 x2 x3 i = (D.x1 (i 0) (i 1) : EReal) := by
  rw [val_main_v4_apply, val_main_v1_apply, val_main_v3_apply, val_main_v2_apply, h.b1,
    dot_coe _ _ _ _ (fun j => h.adj _) fun j => xw_eq h _]
  exact (EReal.coe_add _ _).symm

theorem s2_eq (i) : val_main_v5 (F := Ideal) x0 x1 x2 x3 x4 i = (D.s2 (i 0) (i 1) : EReal) := by
  rw [val_main_v5_apply]
  exact dot_coe _ _ _ _ (fun k => x1_eq h _) fun k => h.w2 _

theorem qa_eq (i) : val_main_v13 (F := Ideal) x1 i = (((D.qa (i 0) (i 1) : ℤ) : ℝ) : EReal) := by
  rw [val_main_v13_apply, val_main_call1_v4_apply, val_main_call1_v3_apply, val_main_cst_3_apply, val_main_call1_v2_apply,
    val_main_call1_v1_apply, val_main_call1_v0_apply, val_main_cst_2_apply, val_main_v12_apply, val_main_v11_apply,
    val_main_v9_apply, val_main_v7_apply, val_main_v6_apply, val_main_cst_apply, val_main_v8_apply, val_main_cst_0_apply,
    val_main_v10_apply, val_main_cst_1_apply, h.adj]
  simp only [Ideal.ofBits_def, Ideal.minimumf_def, Ideal.maximumf_def, Ideal.mulf_def, Ideal.subf_def, Ideal.hostUnary_roundeven_def,
    w_127, w_neg127, w_one, w_20000, ← EReal.coe_mul, ← EReal.coe_sub]
  exact clip_coe _

theorem max_eq (i) : val_main_v15 (F := Ideal) x0 x1 x2 x3 x4 i = (top (fun j => |D.s2 j (i 0)|) : EReal) := by
  have e : ∀ q, val_main_v14 (F := Ideal) x0 x1 x2 x3 x4 q = ((|D.s2 (q 0) (q 1)| : ℝ) : EReal) := fun q => by
    rw [val_main_v14_apply, s2_eq h, Ideal.hostAbsf_def]
    exact abs_coe _
  unfold val_main_v15
  generalize val_main_v14 (F := Ideal) x0 x1 x2 x3 x4 = v at e
  pointwise [val_main_cst_4]
  rw [w_neg_inf]
  exact fold_max_of_coe _ _ fun k => e _

theorem scale_eq (i) : val_main_v19 (F := Ideal) x0 x1 x2 x3 x4 i = (D.scale (i 0) : EReal) := by
  rw [val_main_v19_apply, val_main_v17_apply, max_eq h, val_main_v16_apply, val_main_cst_5_apply, val_main_v18_apply,
    val_main_cst_6_apply]
  simp only [Ideal.ofBits_def, Ideal.maximumf_def, Ideal.hostDivf_def, w_127, w_tiny, max_coe]
  exact div_real _ _ (by norm_num)

theorem qs_eq (i) : val_main_v24 (F := Ideal) x0 x1 x2 x3 x4 i = (((D.qs (i 0) (i 1) : ℤ) : ℝ) : EReal) := by
  rw [val_main_v24_apply, val_main_call3_v4_apply, val_main_call3_v3_apply, val_main_cst_8_apply, val_main_call3_v2_apply,
    val_main_call3_v1_apply, val_main_call3_v0_apply, val_main_cst_7_apply, val_main_v23_apply, val_main_v22_apply,
    val_main_v21_apply, val_main_v20_apply, scale_eq h, s2_eq h]
  simp only [Ideal.ofBits_def, Ideal.minimumf_def, Ideal.maximumf_def, Ideal.hostDivf_def, Ideal.hostUnary_roundeven_def, w_127, w_neg127]
  exact (congrArg (fun e : EReal => min ((127 : ℝ) : EReal) (max ((-127 : ℝ) : EReal) (Ideal.liftRound Ideal.roundHalfEven e)))
    (div_real (D.s2 (i 0) (i 1)) (D.scale (i 1)) (D.scale_pos _).ne')).trans (clip_coe _)

theorem x2_eq (i) : val_main_v41 (F := Ideal) x0 x1 x2 x3 x4 x5 i = (D.x2 (i 0) (i 1) : EReal) := by
  have ea : ∀ q, val_main_v26 (F := Ideal) x1 q = (((D.qa (q 0) (q 1) : ℝ) / 2540000 : ℝ) : EReal) := fun q => by
    rw [val_main_v26_apply, qa_eq h, val_main_v25_apply, val_main_cst_9_apply]
    simp only [Ideal.ofBits_def, Ideal.hostDivf_def, w_2540000]
    exact div_real _ _ (by norm_num)
  have es : ∀ q, val_main_v29 (F := Ideal) x0 x1 x2 x3 x4 q = (((D.qs (q 0) (q 1) : ℝ) * D.scale (q 1) : ℝ) : EReal) := fun q => by
    rw [val_main_v29_apply, qs_eq h, val_main_v28_apply, val_main_v27_apply, scale_eq h]
    exact (EReal.coe_mul _ _).symm
  rw [val_main_v41_apply, val_main_v38_apply, val_main_v30_apply, val_main_v37_apply, val_main_v36_apply, val_main_v35_apply,
    val_main_v33_apply, val_main_v31_apply, val_main_cst_10_apply, val_main_v32_apply, val_main_cst_11_apply, val_main_v34_apply,
    val_main_cst_12_apply, val_main_v40_apply, val_main_v39_apply, h.b2, dot_coe _ _ _ _ (fun k => ea _) fun k => es _,
    show (∑ k, val_main_v5 (F := Ideal) x0 x1 x2 x3 x4 (idx_main_v31 (idx_main_v36 (idx_main_v37 i)) k)) = ((∑ k, D.s2 k (i 1) : ℝ) : EReal) from
      (Finset.sum_congr rfl fun k _ => s2_eq h _).trans (sum_coe _)]
  simp only [Ideal.ofBits_def, Ideal.hostDivf_def, Ideal.addf_def, Ideal.ofBits_zero_f32, zero_add, w_10000, w_two]
  rw [div_real _ _ (by norm_num), div_real _ _ (by norm_num), ← EReal.coe_add, ← EReal.coe_add]
  rfl

theorem cat_eq (i) : val_main_v42 (F := Ideal) x0 x1 x2 x3 x4 x5 i = (D.cat (i 0) (i 1) : EReal) := by
  have e2 := x2_eq h
  have e1 := x1_eq h
  unfold val_main_v42
  generalize val_main_v41 (F := Ideal) x0 x1 x2 x3 x4 x5 = u at e2
  generalize val_main_v4 (F := Ideal) x0 x1 x2 x3 = v at e1
  pointwise
  unfold Data.cat
  split
  · exact e2 _
  · exact e1 _

theorem o_eq (i) : val_main_v47 (F := Ideal) x0 x1 x2 x3 x4 x5 x6 x7 i = (D.o (i 0) (i 1) : EReal) := by
  have ew : ∀ q, val_main_v43 (F := Ideal) x6 q = (D.wl (q 1) (q 0) : EReal) := fun q => by rw [val_main_v43_apply, h.wl]; rfl
  rw [val_main_v47_apply, val_main_v44_apply, val_main_v46_apply, val_main_v45_apply, h.bl, dot_coe _ _ _ _ (fun k => cat_eq h _) fun k => ew _]
  exact (EReal.coe_add _ _).symm

/-- The reference's result is the log-softmax of the last layer. -/
theorem y_eq (i) : val_main_v48 (F := Ideal) x0 x1 x2 x3 x4 x5 x6 x7 i = (D.y (i 0) (i 1) : EReal) := by
  have em : ∀ q, val_main_call4_v0 (F := Ideal) x0 x1 x2 x3 x4 x5 x6 x7 q = (top (D.o (q 0)) : EReal) := fun q => by
    have e := o_eq h
    unfold val_main_call4_v0
    generalize val_main_v47 (F := Ideal) x0 x1 x2 x3 x4 x5 x6 x7 = v at e
    pointwise [val_main_call4_cst]
    rw [w_neg_inf]
    exact fold_max_of_coe _ _ fun k => e _
  have es : ∀ q, val_main_call4_v5 (F := Ideal) x0 x1 x2 x3 x4 x5 x6 x7 q = ((D.o (q 0) (q 1) - top (D.o (q 0)) : ℝ) : EReal) := fun q => by
    rw [val_main_call4_v5_apply, o_eq h, val_main_call4_v4_apply, val_main_call4_v3_apply, val_main_call4_v2_apply, em,
      val_main_call4_v1_apply, val_main_call4_cst_0_apply]
    simp only [Ideal.ofBits_def, Ideal.maximumf_def, Ideal.subf_def, w_neg_inf, max_bot_left]
    exact (EReal.coe_sub _ _).symm
  have ee : ∀ q, val_main_call4_v6 (F := Ideal) x0 x1 x2 x3 x4 x5 x6 x7 q = ((Real.exp (D.o (q 0) (q 1) - top (D.o (q 0))) : ℝ) : EReal) := fun q => by
    rw [val_main_call4_v6_apply, es]; rfl
  rw [val_main_v48_apply, es, val_main_call4_v10_apply, val_main_call4_v9_apply, val_main_call4_v8_apply, val_main_call4_v7_apply,
    val_main_call4_cst_1_apply,
    show (∑ k, val_main_call4_v6 (F := Ideal) x0 x1 x2 x3 x4 x5 x6 x7 (idx_main_call4_v7 (idx_main_call4_v8 (idx_main_call4_v10 i)) k))
        = ((∑ c', Real.exp (D.o (i 0) c' - top (D.o (i 0))) : ℝ) : EReal) from
      (Finset.sum_congr rfl fun k _ => ee _).trans (sum_coe _)]
  simp only [Ideal.ofBits_def, Ideal.ofBits_zero_f32, zero_add, Ideal.subf_def, Ideal.hostUnary_log_def, Ideal.log_coe]
  rw [if_neg (not_le.mpr (Data.sum_exp_pos _)), ← EReal.coe_sub]
  rfl

end Ref

end Cert.Proof

end
-- ==== Proof.Host.lean ====
/- What the operations before the first pass leave: the weights and the biases the two passes read, as the real numbers of `Data`. -/
module

public import proofs.«01_k».proof.Proof.Run
public import proofs.«01_k».proof.Proof.Reference
public import Idealize.ShloMosaic.Lib.StableHlo.ReadAt

@[expose] public section

set_option maxRecDepth 16384

noncomputable section

namespace Cert.Proof

open Idealize.ShloMosaic Idealize.ShloMosaic.TcCoe Idealize.ShloMosaic.Pointwise Cert.KernelIdeal Cert.KernelIdeal.Gen
open Idealize.SL.Sem

/-- Core `c`'s arguments hold the data. -/
abbrev Holds (D : Data) (m : (ℓ : Loc nD τ sig) → Buf (Elt Ideal) ℓ) (c : Dev nD) : Prop :=
  Reads D (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

namespace Host

variable {D : Data} {m : (ℓ : Loc nD τ sig) → Buf (Elt Ideal) ℓ} {c : Dev nD} (h : Holds D m c)

include h

theorem wl_eq (i : S96x40.Idx) : (W1 m c main_call0_v5 : S96x40.Idx → EReal) i = (D.wl (i 1) (i 0) : EReal) := by
  have e : (W1 m c main_call0_v5 : S96x40.Idx → EReal) i = (m ((c : Thread nD τ).loc main_arg6) : S40x96.Idx → EReal) (ix2 (i 1) (i 0)) := by
    unfold W1 V1
    after_reads_at
  exact e.trans (h.wl _)

theorem b2_eq (i : S1x32.Idx) : (W1 m c main_call0_v6 : S1x32.Idx → EReal) i = (D.b2 (i 1) : EReal) := by
  have e : (W1 m c main_call0_v6 : S1x32.Idx → EReal) i = (m ((c : Thread nD τ).loc main_arg5) : S32.Idx → EReal) (ix1 (i 1)) := by
    unfold W1 V1
    after_reads_at
  exact e.trans (h.b2 _)

theorem bl_eq (i : S1x40.Idx) : (W1 m c main_call0_v7 : S1x40.Idx → EReal) i = (D.bl (i 1) : EReal) := by
  have e : (W1 m c main_call0_v7 : S1x40.Idx → EReal) i = (m ((c : Thread nD τ).loc main_arg7) : S40.Idx → EReal) (ix1 (i 1)) := by
    unfold W1 V1
    after_reads_at
  exact e.trans (h.bl _)

theorem wc_eq (i : S128x96.Idx) : (W1 m c main_call0_v1 : S128x96.Idx → EReal) i = (D.wc (i 0) (i 1) : EReal) := by
  unfold W1 V1
  after_reads_at
  after_reads_at
  unfold Data.wc
  split
  · exact h.w1 _
  · exact dot_coe _ _ _ _ (fun k => h.w1 _) fun k => h.w2 _

theorem bc_eq (i : S1x96.Idx) : (W1 m c main_call0_v4 : S1x96.Idx → EReal) i = (D.bc (i 1) : EReal) := by
  unfold W1 V1
  after_reads_at
  after_reads_at
  unfold Data.bc
  split
  · exact h.b1 _
  · exact dot_coe _ _ _ _ (fun k => h.b1 _) fun k => h.w2 _

end Host

end Cert.Proof

end
-- ==== Proof.Payload1.lean ====
/- What pass 1 writes at a grid point, read at an entry, of operands that are real numbers. -/
module

public import proofs.«01_k».proof.Proof.Reals
public import proofs.«01_k».proof.Proof.Gen.KernelIdeal.Skeleton
public import Idealize.ShloMosaic.Lib.Pointwise

@[expose] public section

set_option maxRecDepth 16384

noncomputable section

namespace Cert.Proof

open Idealize.ShloMosaic Idealize.ShloMosaic.Pointwise Cert.KernelIdeal Cert.KernelIdeal.Gen

theorem named_off : (Named.named κ "off" 0x3851B717#32 : Ideal .f32) = ((1 / 20000 : ℝ) : EReal) := rfl
theorem named_inv_127 : (Named.named κ "inv_127" 0x3C010204#32 : Ideal .f32) = ((1 / 127 : ℝ) : EReal) := rfl
theorem named_inv_s : (Named.named κ "inv_s" 0x34D35DD3#32 : Ideal .f32) = ((1 / 2540000 : ℝ) : EReal) := rfl

/-- The features by the weights. -/
theorem weighted_eq (v27 : S10000x128.Idx → EReal) (v28 : S128x96.Idx → EReal) (x : Fin 10000 → Fin 128 → ℝ) (w : Fin 128 → Fin 96 → ℝ)
    (hx : ∀ i, v27 i = (x (i 0) (i 1) : EReal)) (hw : ∀ i, v28 i = (w (i 0) (i 1) : EReal)) (i : S10000x96.Idx) :
    k0_pay1 (F := Ideal) v27 v28 i = ((∑ f, x (i 0) f * w f (i 1) : ℝ) : EReal) := by
  pointwise [k0_pay1]
  exact dot_coe _ _ _ _ (fun k => hx _) fun k => hw _

section

variable (v3 : S400x10000.Idx → EReal) (v4 : S10000x96.Idx → EReal) (v6 : S1x96.Idx → EReal) (a : Fin 400 → Fin 10000 → ℝ)
  (s : Fin 10000 → Fin 96 → ℝ) (b : Fin 96 → ℝ) (ha : ∀ i, v3 i = (a (i 0) (i 1) : EReal)) (hs : ∀ i, v4 i = (s (i 0) (i 1) : EReal))
  (hb : ∀ i, v6 i = (b (i 1) : EReal))

include ha hs hb in
/-- A block of the adjacency by the weighted features, the biases added. -/
theorem layer_eq (i : S400x96.Idx) : k0_pay2 (F := Ideal) v3 v4 v6 i = ((∑ j, a (i 0) j * s j (i 1) + b (i 1) : ℝ) : EReal) := by
  pointwise [k0_pay2]
  rw [dot_coe _ _ _ _ (fun k => ha _) fun k => hs _, hb]
  exact (EReal.coe_add _ _).symm

include ha hs hb in
/-- Its first sixty-four columns. -/
theorem cols1_eq (i : S400x64.Idx) : k0_pay3 (F := Ideal) v3 v4 v6 i
    = ((∑ j, a (i 0) j * s j ⟨(i 1).val, (i 1).isLt.trans (by decide)⟩ + b ⟨(i 1).val, (i 1).isLt.trans (by decide)⟩ : ℝ) : EReal) := by
  have e := layer_eq v3 v4 v6 a s b ha hs hb
  unfold k0_pay3
  generalize k0_pay2 (F := Ideal) v3 v4 v6 = u at e
  pointwise
  exact e _

include ha hs hb in
/-- Its last thirty-two. -/
theorem cols2_eq (i : S400x32.Idx) : k0_pay4 (F := Ideal) v3 v4 v6 i
    = ((∑ j, a (i 0) j * s j ⟨64 + (i 1).val, Nat.add_lt_add_left (i 1).isLt 64⟩ + b ⟨64 + (i 1).val, Nat.add_lt_add_left (i 1).isLt 64⟩ : ℝ) : EReal) := by
  have e := layer_eq v3 v4 v6 a s b ha hs hb
  unfold k0_pay4
  generalize k0_pay2 (F := Ideal) v3 v4 v6 = u at e
  pointwise
  exact e _

include ha in
/-- The codes of the block of the adjacency. -/
theorem codes_eq (i : S1x400x10000.Idx) : ((k0_pay5 (F := Ideal) v3 i).toInt : ℤ) = code ((a (i 1) (i 2) - 1 / 20000) * 2540000) := by
  pointwise [k0_pay5]
  rw [named_off, w_127, w_neg127, w_2540000, ha, ← EReal.coe_sub, ← EReal.coe_mul, clip_coe]
  exact toInt_fptosi_code _

end

end Cert.Proof

end
-- ==== Proof.Value1.lean ====
/- What pass 1 leaves in its three results: the first layer, the second layer's support, and the adjacency's codes. -/
module

public import proofs.«01_k».proof.Proof.Host
public import proofs.«01_k».proof.Proof.Payload1
public import Idealize.ShloMosaic.Lib.Pipeline.ValueKit

@[expose] public section

set_option maxRecDepth 16384

noncomputable section

namespace Cert.Proof

open Idealize.ShloMosaic Idealize.ShloMosaic.TcCoe Idealize.ShloMosaic.Pointwise Cert.KernelIdeal Cert.KernelIdeal.Gen
open Idealize.SL.Sem

/-- Row `y` of the block of rows at point `t`. -/
def row (t : Fin 25) (y : Fin 400) : Fin 10000 := ⟨t.val * 400 + y.val, by omega⟩

/-- A code survives its int8 word. -/
theorem code_word (r : ℝ) : (BitVec.ofInt 8 (code r)).toInt = code r := by
  have h1 := code_le r
  have h2 := neg_le_code r
  rw [BitVec.toInt_ofInt]
  apply Int.bmod_eq_of_le <;> omega

namespace Value1

/-! ## Where each window's block lies -/

theorem at0 : ∀ t : Fin grid0.N, win0_0.index t = ![0, 0] := by decide +kernel
theorem at1 : ∀ t : Fin grid0.N, win0_1.index t = ![t.val, 0] := by decide +kernel
theorem at2 : ∀ t : Fin grid0.N, win0_2.index t = ![0, 0] := by decide +kernel
theorem at3 : ∀ t : Fin grid0.N, win0_3.index t = ![0, 0] := by decide +kernel
theorem at4 : ∀ t : Fin grid0.N, win0_4.index t = ![t.val, 0] := by decide +kernel
theorem at5 : ∀ t : Fin grid0.N, win0_5.index t = ![t.val, 0] := by decide +kernel
theorem at6 : ∀ t : Fin grid0.N, win0_6.index t = ![t.val, 0, 0] := by decide +kernel

variable {D : Data} {m : (ℓ : Loc nD τ sig) → Buf (Elt Ideal) ℓ} {c : Dev nD} (h : Holds D m c)

include h

theorem adj_block (t : Fin cfg0.N) (y : S400x10000.Idx) : (Pass1.blk (W1 m) c 1 t : S400x10000.Idx → EReal) y = (D.adj (row t (y 0)) (y 1) : EReal) := by
  have e : (Pass1.blk (W1 m) c 1 t : S400x10000.Idx → EReal) y = (m ((c : Thread nD τ).loc main_arg1) : S10000x10000.Idx → EReal) (ix2 (row t (y 0)) (y 1)) := by
    have ea : (W1 m c main_arg1 : S10000x10000.Idx → EReal) = m ((c : Thread nD τ).loc main_arg1) := (V1_of m c main_arg1 (by decide)).trans rfl
    rw [← ea]
    blk_simp [Pass1.blk]
    congr 1
    blk_ext [at1, row]
  exact e.trans (h.adj _)

theorem x_block (t : Fin cfg0.N) (y : S10000x128.Idx) : (Pass1.blk (W1 m) c 0 t : S10000x128.Idx → EReal) y = (D.x (y 0) (y 1) : EReal) := by
  have e : (Pass1.blk (W1 m) c 0 t : S10000x128.Idx → EReal) y = (m ((c : Thread nD τ).loc main_arg0) : S10000x128.Idx → EReal) y := by
    have ea : (W1 m c main_arg0 : S10000x128.Idx → EReal) = m ((c : Thread nD τ).loc main_arg0) := (V1_of m c main_arg0 (by decide)).trans rfl
    rw [← ea]
    blk_simp [Pass1.blk]
    congr 1
    blk_ext [at0]
  exact e.trans (h.x _)

theorem wc_block (t : Fin cfg0.N) (y : S128x96.Idx) : (Pass1.blk (W1 m) c 2 t : S128x96.Idx → EReal) y = (D.wc (y 0) (y 1) : EReal) := by
  have e : (Pass1.blk (W1 m) c 2 t : S128x96.Idx → EReal) y = (W1 m c main_call0_v1 : S128x96.Idx → EReal) y := by
    blk_simp [Pass1.blk]
    congr 1
    blk_ext [at2]
  exact e.trans (Host.wc_eq h _)

theorem bc_block (t : Fin cfg0.N) (y : S1x96.Idx) : (Pass1.blk (W1 m) c 3 t : S1x96.Idx → EReal) y = (D.bc (y 1) : EReal) := by
  have e : (Pass1.blk (W1 m) c 3 t : S1x96.Idx → EReal) y = (W1 m c main_call0_v4 : S1x96.Idx → EReal) y := by
    blk_simp [Pass1.blk]
    congr 1
    blk_ext [at3]
  exact e.trans (Host.bc_eq h _)

/-- The scratch: the features by the weights. -/
theorem scr_eq (y : S10000x96.Idx) : (Pass1.scr (W1 m) c : S10000x96.Idx → EReal) y = ((∑ f, D.x (y 0) f * D.wc f (y 1) : ℝ) : EReal) :=
  weighted_eq _ _ D.x D.wc (x_block h Pass1.t0) (wc_block h Pass1.t0) y

/-- The first layer. -/
theorem x1_eq (i : S10000x64.Idx) : (W2 m c main_call0_v8_0 : S10000x64.Idx → EReal) i = (D.x1 (i 0) (i 1) : EReal) := by
  have e : (Pass1.dat (W1 m) c).arrAt 4 cfg0.N = fun i : S10000x64.Idx => ((D.x1 (i 0) (i 1) : ℝ) : EReal) := by
    refine (Pass1.dat (W1 m) c).arrAt_eq_of_covers 4 _ (by decide +kernel) fun t _ y => ?_
    have ei : (win0_4.blk t).view.emb y = (ix2 (row t (y 0)) (y 1) : S10000x64.Idx) := by blk_ext [at4, row]
    blk_simp
    rw [ei]
    exact (cols1_eq _ _ _ (fun r j => D.adj (row t r) j) (fun j q => ∑ f, D.x j f * D.wc f q) _ (adj_block h t) (scr_eq h) (bc_block h t) y).trans
      (congrArg (fun r : ℝ => (r : EReal)) (D.x1_of_cols (row t (y 0)) (y 1) _ rfl))
  rw [W2_x1, e]

/-- The second layer's support. -/
theorem s2_eq (i : S10000x32.Idx) : (W2 m c main_call0_v8_1 : S10000x32.Idx → EReal) i = (D.s2 (i 0) (i 1) : EReal) := by
  have e : (Pass1.dat (W1 m) c).arrAt 5 cfg0.N = fun i : S10000x32.Idx => ((D.s2 (i 0) (i 1) : ℝ) : EReal) := by
    refine (Pass1.dat (W1 m) c).arrAt_eq_of_covers 5 _ (by decide +kernel) fun t _ y => ?_
    have ei : (win0_5.blk t).view.emb y = (ix2 (row t (y 0)) (y 1) : S10000x32.Idx) := by blk_ext [at5, row]
    blk_simp
    rw [ei]
    exact (cols2_eq _ _ _ (fun r j => D.adj (row t r) j) (fun j q => ∑ f, D.x j f * D.wc f q) _ (adj_block h t) (scr_eq h) (bc_block h t) y).trans
      (congrArg (fun r : ℝ => (r : EReal)) (D.s2_of_cols (row t (y 0)) (y 1) _ rfl))
  rw [W2_s2, e]

/-- What pass 1 leaves of the codes at a point's block. -/
theorem codes_block (t : Fin cfg0.N) (y : S1x400x10000.Idx) : ((k0_pay5 (F := Ideal) (Pass1.blk (W1 m) c 1 t) y).toInt : ℤ) = D.qa (row t (y 1)) (y 2) :=
  (codes_eq _ (fun r j => D.adj (row t r) j) (adj_block h t) y).trans (D.qa_of_offset _ _)

/-- The adjacency's codes, a block of rows to each leading index. -/
theorem qa_eq (i : S25x400x10000.Idx) : ((W2 m c main_call0_v8_2 : S25x400x10000.Idx → BitVec 8) i).toInt = D.qa (row (i 0) (i 1)) (i 2) := by
  have e : (Pass1.dat (W1 m) c).arrAt 6 cfg0.N = fun i : S25x400x10000.Idx => BitVec.ofInt 8 (D.qa (row (i 0) (i 1)) (i 2)) := by
    refine (Pass1.dat (W1 m) c).arrAt_eq_of_covers 6 _ (by decide +kernel) fun t _ y => ?_
    have ei : (win0_6.blk t).view.emb y = (ix3 t (y 1) (y 2) : S25x400x10000.Idx) := by blk_ext [at6]
    blk_simp
    rw [ei]
    exact BitVec.eq_of_toInt_eq ((codes_block h t y).trans (code_word _).symm)
  rw [W2_codes, e]
  exact code_word _

end Value1

end Cert.Proof

end
-- ==== Proof.Payload2.lean ====
/- What pass 2 keeps and writes at a grid point, read at an entry, of operands that are real numbers and int8 codes. -/
module

public import proofs.«01_k».proof.Proof.Payload1
public import Idealize.ShloMosaic.Lib.IntMxu

@[expose] public section

set_option maxRecDepth 16384

noncomputable section

namespace Cert.Proof

open Idealize.ShloMosaic Idealize.ShloMosaic.Pointwise Cert.KernelIdeal Cert.KernelIdeal.Gen

section

variable (v36 : S10000x32.Idx → EReal) (s : Fin 10000 → Fin 32 → ℝ) (hs : ∀ i, v36 i = (s (i 0) (i 1) : EReal))

include hs in
/-- The columns' scales. -/
theorem colScale_eq (i : S1x32.Idx) :
    k1_pay2 (F := Ideal) v36 i = ((max (top fun j => |s j (i 1)|) tiny / 127 : ℝ) : EReal) := by
  pointwise [k1_pay2, k1_pay1]
  rw [w_neg_inf, w_tiny, named_inv_127, fold_max_of_coe _ (fun j => |s j (i 1)|) fun k => by
    rw [hs, Ideal.absf_def]; exact abs_coe _, max_coe, ← EReal.coe_mul, mul_one_div]

include hs in
/-- The support's codes. -/
theorem supportCodes_eq (i : S10000x32.Idx) : ((k1_pay3 (F := Ideal) v36 i).toInt : ℤ)
    = code (s (i 0) (i 1) / (max (top fun j => |s j (i 1)|) tiny / 127)) := by
  have e := colScale_eq v36 s hs
  unfold k1_pay3
  generalize k1_pay2 (F := Ideal) v36 = u at e
  pointwise [k1_pay1]
  rw [e, hs, w_127, w_neg127, div_real _ _ (div_pos (lt_max_of_lt_right tiny_pos) (by norm_num)).ne', clip_coe]
  exact toInt_fptosi_code _

include hs in
/-- A column's scale, over that of the adjacency's codes. -/
theorem descale_eq (i : S1x32.Idx) :
    k1_pay4 (F := Ideal) v36 i = ((max (top fun j => |s j (i 1)|) tiny / 127 * (1 / 2540000) : ℝ) : EReal) := by
  have e := colScale_eq v36 s hs
  unfold k1_pay4
  generalize k1_pay2 (F := Ideal) v36 = u at e
  pointwise
  rw [e, named_inv_s]
  exact (EReal.coe_mul _ _).symm

include hs in
/-- What the adjacency's offset contributes, and the bias. -/
theorem offset_eq (v65 : S1x32.Idx → EReal) (b : Fin 32 → ℝ) (hb : ∀ i, v65 i = (b (i 1) : EReal)) (i : S1x32.Idx) :
    k1_pay5 (F := Ideal) v36 v65 i = (((∑ j, s j (i 1)) * (1 / 20000) + b (i 1) : ℝ) : EReal) := by
  pointwise [k1_pay5, k1_pay1]
  rw [named_off, hb, show (∑ x, v36 (ix2 x (i 1))) = ((∑ j, s j (i 1) : ℝ) : EReal) from
    (Finset.sum_congr rfl fun k _ => hs _).trans (sum_coe _), ← EReal.coe_mul]
  exact (EReal.coe_add _ _).symm

end

/-- The int8 product's dimensions: rows of the left operand by columns of the right. -/
abbrev dI : DotDims S400x10000 S10000x32 S400x32 := dot_S400x10000_S10000x32_S400x32_1_0_0_1_n_n

theorem dI_lhs (i : S400x32.Idx) (k : Fin 10000) : dI.lhsIdx i ((ValueIdx.contrEquiv1 dI 10000 rfl rfl).symm k) = ix2 (i 0) k := by
  have hk := ValueIdx.contrEquiv1_symm_val dI 10000 rfl rfl k
  refine funext fun a => Fin.ext ?_
  match a with
  | ⟨0, _⟩ =>
    show (dI.lhsIdx i _ 0).val = (i 0).val
    unfold DotDims.lhsIdx
    rw [dif_neg (show ¬(0 : Fin S400x10000.rank) ∈ dI.lhsBatch by decide), dif_pos (show (0 : Fin S400x10000.rank) ∈ dI.lhsNonContracting by decide)]
    rfl
  | ⟨1, _⟩ => exact (dI.lhsIdx_val_of_single rfl i _).trans hk

theorem dI_rhs (i : S400x32.Idx) (k : Fin 10000) : dI.rhsIdx i ((ValueIdx.contrEquiv1 dI 10000 rfl rfl).symm k) = ix2 k (i 1) := by
  have hk := ValueIdx.contrEquiv1_symm_val dI 10000 rfl rfl k
  refine funext fun a => Fin.ext ?_
  match a with
  | ⟨0, _⟩ => exact (dI.rhsIdx_val_of_single rfl i _).trans hk
  | ⟨1, _⟩ =>
    show (dI.rhsIdx i _ 1).val = (i 1).val
    unfold DotDims.rhsIdx
    rw [dif_neg (show ¬(1 : Fin S10000x32.rank) ∈ dI.rhsBatch by decide), dif_pos (show (1 : Fin S10000x32.rank) ∈ dI.rhsNonContracting by decide)]
    rfl

/-- The int8 product of codes whose products' magnitudes total at most two to the twenty-sixth is their sum, exactly. -/
theorem product_eq (l : IVec S400x10000 8) (r : IVec S10000x32 8) (qa : Fin 400 → Fin 10000 → ℤ) (qs : Fin 10000 → Fin 32 → ℤ)
    (hl : ∀ i, (l i).toInt = qa (i 0) (i 1)) (hr : ∀ i, (r i).toInt = qs (i 0) (i 1)) (i : S400x32.Idx)
    (h : ∑ j, (qa (i 0) j * qs j (i 1)).natAbs ≤ 67108864) :
    (matmulI8 IntMxuNumerics.v5e dI l r (constantI S400x32 32 0#32) i).toInt = ∑ j, qa (i 0) j * qs j (i 1) := by
  rw [matmulI8_toInt IntMxuNumerics.v5e dI l r _ i rfl ?_]
  · unfold dotI8
    rw [← Equiv.sum_comp (ValueIdx.contrEquiv1 dI 10000 rfl rfl).symm]
    refine Finset.sum_congr rfl fun k _ => ?_
    rw [dI_lhs, dI_rhs]
    exact congrArg₂ (· * ·) (hl (ix2 (i 0) k)) (hr (ix2 k (i 1)))
  · unfold absDotI8
    rw [← Equiv.sum_comp (ValueIdx.contrEquiv1 dI 10000 rfl rfl).symm]
    refine le_trans (le_of_eq (Finset.sum_congr rfl fun k _ => ?_)) h
    rw [dI_lhs, dI_rhs]
    exact congrArg Int.natAbs (congrArg₂ (· * ·) (hl (ix2 (i 0) k)) (hr (ix2 k (i 1))))

/-- The second layer's block: the product, scaled, and the offset's share. -/
def secondBlock (v3 : Vec Ideal S1x400x10000 .i8) (v5 : Vec Ideal S10000x32 .i8) (v8 v11 : Vec Ideal S1x32 .f32) : FVec Ideal S400x32 .f32 :=
  addf (mulf (sitofp .f32 (matmulI8 IntMxuNumerics.v5e dI (shapeCast S400x10000 v3 shapeCasts_S1x400x10000_S400x10000) v5 (constantI S400x32 32 0#32)))
    (broadcastTo S400x32 v8 broadcasts_S1x32_S400x32)) (broadcastTo S400x32 v11 broadcasts_S1x32_S400x32)

/-- The last layer's block. -/
def lastBlock (u : FVec Ideal S400x32 .f32) (v14 : Vec Ideal S400x64 .f32) (v17 : Vec Ideal S96x40 .f32) (v20 : Vec Ideal S1x40 .f32) : FVec Ideal S400x40 .f32 :=
  addf (matmul (φ₁ := .f32) (φ₂ := .f32) dot_S400x96_S96x40_S400x40_1_0_0_1_n_n none
      (concatenate S400x96 1 [⟨S400x32, u⟩, ⟨S400x64, shapeCast S400x64 v14 shapeCasts_S400x64_S400x64⟩] concatenates_S400x32_S400x64_S400x96_d1)
      (shapeCast S96x40 v17 shapeCasts_S96x40_S96x40) (constant S400x40 .f32 0x00000000#32))
    (broadcastTo S400x40 (shapeCast S1x40 v20 shapeCasts_S1x40_S1x40) broadcasts_S1x40_S400x40)

/-- A block's rows' maxima. -/
def rowTop (o : FVec Ideal S400x40 .f32) : FVec Ideal S400x1 .f32 :=
  shapeCast S400x1 (multiReduction .maximumf [1] S400 o 0xFF800000#32 reduces_S400x40_S400 (.inl rfl) rfl) shapeCasts_S400_S400x1

/-- A block's rows' sums of exponentials, each less the row's maximum. -/
def rowSum (o : FVec Ideal S400x40 .f32) (t : FVec Ideal S400x1 .f32) : FVec Ideal S400x1 .f32 :=
  shapeCast S400x1 (multiReduction .add [1] S400 (exp (subf o (broadcastTo S400x40 t broadcasts_S400x1_S400x40))) 0x00000000#32 reduces_S400x40_S400 (.inl rfl) rfl) shapeCasts_S400_S400x1

/-- What the point writes is these, one after another. -/
theorem written_eq_stages (v3 : Vec Ideal S1x400x10000 .i8) (v5 : Vec Ideal S10000x32 .i8) (v8 v11 : Vec Ideal S1x32 .f32) (v14 : Vec Ideal S400x64 .f32)
    (v17 : Vec Ideal S96x40 .f32) (v20 : Vec Ideal S1x40 .f32) :
    k1_pay6 v3 v5 v8 v11 v14 v17 v20 =
      subf (lastBlock (secondBlock v3 v5 v8 v11) v14 v17 v20)
        (broadcastTo S400x40 (addf (log (rowSum (lastBlock (secondBlock v3 v5 v8 v11) v14 v17 v20) (rowTop (lastBlock (secondBlock v3 v5 v8 v11) v14 v17 v20))))
          (rowTop (lastBlock (secondBlock v3 v5 v8 v11) v14 v17 v20))) broadcasts_S400x1_S400x40) := rfl

/-- A block whose entries are real numbers, less each row's log of its sum of exponentials. -/
theorem lse_eq (o : FVec Ideal S400x40 .f32) (f : Fin 400 → Fin 40 → ℝ) (ho : ∀ i, o i = (f (i 0) (i 1) : EReal)) (i : S400x40.Idx) :
    (subf o (broadcastTo S400x40 (addf (log (rowSum o (rowTop o))) (rowTop o)) broadcasts_S400x1_S400x40) : FVec Ideal S400x40 .f32) i
      = ((f (i 0) (i 1) - (Real.log (∑ c, Real.exp (f (i 0) c - top (f (i 0)))) + top (f (i 0))) : ℝ) : EReal) := by
  have et : ∀ q, rowTop o q = (top (f (q 0)) : EReal) := fun q => by
    pointwise [rowTop]
    rw [w_neg_inf]
    exact fold_max_of_coe _ _ fun k => ho _
  generalize rowTop o = t at et
  have es : ∀ q, rowSum o t q = ((∑ c, Real.exp (f (q 0) c - top (f (q 0))) : ℝ) : EReal) := fun q => by
    pointwise [rowSum]
    rw [← sum_coe]
    refine Finset.sum_congr rfl fun k _ => ?_
    rw [ho, et, ← EReal.coe_sub]
    exact Ideal.exp_coe _
  generalize rowSum o t = z at es
  pointwise
  rw [ho, es, et, Ideal.log_coe, if_neg (not_le.mpr (Data.sum_exp_pos _)), ← EReal.coe_add]
  exact (EReal.coe_sub _ _).symm

theorem secondBlock_eq (v3 : Vec Ideal S1x400x10000 .i8) (v5 : Vec Ideal S10000x32 .i8) (v8 v11 : Vec Ideal S1x32 .f32)
    (qa : Fin 400 → Fin 10000 → ℤ) (qs : Fin 10000 → Fin 32 → ℤ) (d e : Fin 32 → ℝ)
    (h3 : ∀ i, (v3 i).toInt = qa (i 1) (i 2)) (h5 : ∀ i, (v5 i).toInt = qs (i 0) (i 1))
    (h8 : ∀ i, v8 i = (d (i 1) : EReal)) (h11 : ∀ i, v11 i = (e (i 1) : EReal)) (i : S400x32.Idx)
    (h : ∑ j, (qa (i 0) j * qs j (i 1)).natAbs ≤ 67108864) :
    secondBlock v3 v5 v8 v11 i = ((((∑ j, qa (i 0) j * qs j (i 1) : ℤ) : ℝ) * d (i 1) + e (i 1) : ℝ) : EReal) := by
  have el : ∀ q, ((shapeCast S400x10000 v3 shapeCasts_S1x400x10000_S400x10000 : IVec S400x10000 8) q).toInt = qa (q 0) (q 1) := fun q => by
    pointwise
    exact h3 _
  have ep := product_eq _ v5 qa qs el h5 i h
  unfold secondBlock
  generalize matmulI8 IntMxuNumerics.v5e dI (shapeCast S400x10000 v3 shapeCasts_S1x400x10000_S400x10000) v5 (constantI S400x32 32 0#32) = p at ep
  pointwise
  rw [show (FloatOps.sitofp .f32 (p i) : Ideal .f32) = (((p i).toInt : ℝ) : EReal) from rfl, ep, h8, h11, ← EReal.coe_mul]
  exact (EReal.coe_add _ _).symm

theorem lastBlock_eq (u : FVec Ideal S400x32 .f32) (v14 : Vec Ideal S400x64 .f32) (v17 : Vec Ideal S96x40 .f32) (v20 : Vec Ideal S1x40 .f32)
    (f : Fin 400 → Fin 32 → ℝ) (g : Fin 400 → Fin 64 → ℝ) (w : Fin 40 → Fin 96 → ℝ) (b : Fin 40 → ℝ)
    (hu : ∀ i, u i = (f (i 0) (i 1) : EReal)) (h14 : ∀ i, v14 i = (g (i 0) (i 1) : EReal))
    (h17 : ∀ i, v17 i = (w (i 1) (i 0) : EReal)) (h20 : ∀ i, v20 i = (b (i 1) : EReal)) (i : S400x40.Idx) :
    lastBlock u v14 v17 v20 i = ((∑ k : Fin 32, f (i 0) k * w (i 1) ⟨k, by omega⟩ + ∑ h : Fin 64, g (i 0) h * w (i 1) ⟨32 + h, by omega⟩ + b (i 1) : ℝ) : EReal) := by
  pointwise [lastBlock]
  rw [dot_coe _ _ _ _ (fun k => hu _) fun k => h17 _, dot_coe _ _ _ _ (fun k => h14 _) fun k => h17 _, h20, ← EReal.coe_add]
  exact (EReal.coe_add _ _).symm

end Cert.Proof

end
-- ==== Proof.Precondition.lean ====
/- What the precondition says: every argument's entries are real numbers, and the codes of a row of the adjacency matrix against those
   of a column of the support sum, in magnitude, to at most two to the twenty-sixth. -/
module

public import proofs.«01_k».proof.Proof.Reference
public import proofs.«01_k».proof.Proof.Gen.Pre_finite_exact

@[expose] public section

set_option maxRecDepth 16384

noncomputable section

namespace Cert.Proof

open Idealize.ShloMosaic Idealize.ShloMosaic.Pointwise Cert.ReferenceIdeal Cert.ReferenceIdeal.Gen Cert.ReferenceIdeal.Read

theorem ofBool_one {p : Prop} [Decidable p] (h : BitVec.ofBool (decide p) = 1#1) : p := by
  by_contra n
  rw [decide_eq_false n] at h
  exact absurd h (by decide)

/-- A number whose magnitude is below plus infinity is a real number. -/
theorem real_of_lt (x : EReal) (h : Ideal.cmp .olt (max x (-x)) (Ideal.ofBits .f32 0x7F800000#32) = 1#1) : x = ((x.toReal : ℝ) : EReal) := by
  rw [w_inf] at h
  have h' := max_lt_iff.mp (ofBool_one h)
  refine (EReal.coe_toReal h'.1.ne fun e => ?_).symm
  rw [e, EReal.neg_bot] at h'
  exact lt_irrefl _ h'.2

/-- The numbers eight arrays hold. -/
def dataOf (x0 : S10000x128.Idx → EReal) (x1 : S10000x10000.Idx → EReal) (x2 : S128x64.Idx → EReal) (x3 : S64.Idx → EReal)
    (x4 : S64x32.Idx → EReal) (x5 : S32.Idx → EReal) (x6 : S40x96.Idx → EReal) (x7 : S40.Idx → EReal) : Data where
  x i j := (x0 (ix2 i j)).toReal
  adj i j := (x1 (ix2 i j)).toReal
  w1 i j := (x2 (ix2 i j)).toReal
  b1 i := (x3 (ix1 i)).toReal
  w2 i j := (x4 (ix2 i j)).toReal
  b2 i := (x5 (ix1 i)).toReal
  wl i j := (x6 (ix2 i j)).toReal
  bl i := (x7 (ix1 i)).toReal

/-- The int8 products are within the range the matrix unit sums exactly. -/
def Data.Small (D : Data) : Prop := ∀ i k, ∑ j, (D.qa i j * D.qs j k).natAbs ≤ 67108864

/-- The product of magnitudes, read at an entry. -/
theorem bound_apply (u : S10000x10000.Idx → EReal) (v : S10000x32.Idx → EReal) (i : S10000x32.Idx) :
    (Host.dotGeneral (F := Ideal) (φ₁ := .f32) (φ₂ := .f32) Cert.Pre_finite_exact.dot_S10000x10000_S10000x32_S10000x32_1_0_0_1_n_n none
      (Host.absf (F := Ideal) (φ := .f32) u) (Host.absf (F := Ideal) (φ := .f32) v)) i
      = ∑ j : Fin 10000, max (u (ix2 (i 0) j)) (-(u (ix2 (i 0) j))) * max (v (ix2 j (i 1))) (-(v (ix2 j (i 1)))) := by
  pointwise
  rfl

variable {x0 : S10000x128.Idx → EReal} {x1 : S10000x10000.Idx → EReal} {x2 : S128x64.Idx → EReal}
    {x3 : S64.Idx → EReal} {x4 : S64x32.Idx → EReal} {x5 : S32.Idx → EReal} {x6 : S40x96.Idx → EReal} {x7 : S40.Idx → EReal}

theorem reads_of_pre (h0 : (Cert.Pre_finite_exact.fn (F := Ideal) x0 x1 x2 x3 x4 x5 x6 x7).1 = fun _ => 1#1)
    (h1 : (Cert.Pre_finite_exact.fn (F := Ideal) x0 x1 x2 x3 x4 x5 x6 x7).2.1 = fun _ => 1#1)
    (h2 : (Cert.Pre_finite_exact.fn (F := Ideal) x0 x1 x2 x3 x4 x5 x6 x7).2.2.1 = fun _ => 1#1)
    (h3 : (Cert.Pre_finite_exact.fn (F := Ideal) x0 x1 x2 x3 x4 x5 x6 x7).2.2.2.1 = fun _ => 1#1)
    (h4 : (Cert.Pre_finite_exact.fn (F := Ideal) x0 x1 x2 x3 x4 x5 x6 x7).2.2.2.2.1 = fun _ => 1#1)
    (h5 : (Cert.Pre_finite_exact.fn (F := Ideal) x0 x1 x2 x3 x4 x5 x6 x7).2.2.2.2.2.1 = fun _ => 1#1)
    (h6 : (Cert.Pre_finite_exact.fn (F := Ideal) x0 x1 x2 x3 x4 x5 x6 x7).2.2.2.2.2.2.1 = fun _ => 1#1)
    (h7 : (Cert.Pre_finite_exact.fn (F := Ideal) x0 x1 x2 x3 x4 x5 x6 x7).2.2.2.2.2.2.2.1 = fun _ => 1#1) :
    Reads (dataOf x0 x1 x2 x3 x4 x5 x6 x7) x0 x1 x2 x3 x4 x5 x6 x7 where
  x i := by rw [show x0 i = _ from real_of_lt _ (congrFun h0 i)]; exact congrArg (fun q => ((x0 q).toReal : EReal)) (eq_ix2 i)
  adj i := by rw [show x1 i = _ from real_of_lt _ (congrFun h1 i)]; exact congrArg (fun q => ((x1 q).toReal : EReal)) (eq_ix2 i)
  w1 i := by rw [show x2 i = _ from real_of_lt _ (congrFun h2 i)]; exact congrArg (fun q => ((x2 q).toReal : EReal)) (eq_ix2 i)
  b1 i := by rw [show x3 i = _ from real_of_lt _ (congrFun h3 i)]; exact congrArg (fun q => ((x3 q).toReal : EReal)) (eq_ix1 i)
  w2 i := by rw [show x4 i = _ from real_of_lt _ (congrFun h4 i)]; exact congrArg (fun q => ((x4 q).toReal : EReal)) (eq_ix2 i)
  b2 i := by rw [show x5 i = _ from real_of_lt _ (congrFun h5 i)]; exact congrArg (fun q => ((x5 q).toReal : EReal)) (eq_ix1 i)
  wl i := by rw [show x6 i = _ from real_of_lt _ (congrFun h6 i)]; exact congrArg (fun q => ((x6 q).toReal : EReal)) (eq_ix2 i)
  bl i := by rw [show x7 i = _ from real_of_lt _ (congrFun h7 i)]; exact congrArg (fun q => ((x7 q).toReal : EReal)) (eq_ix1 i)

theorem small_of_pre {D : Data} (h : Reads D x0 x1 x2 x3 x4 x5 x6 x7)
    (h8 : (Cert.Pre_finite_exact.fn (F := Ideal) x0 x1 x2 x3 x4 x5 x6 x7).2.2.2.2.2.2.2.2 = fun _ => 1#1) : D.Small := by
  intro i k
  have e : Ideal.cmp .ole ((Host.dotGeneral (F := Ideal) (φ₁ := .f32) (φ₂ := .f32) Cert.Pre_finite_exact.dot_S10000x10000_S10000x32_S10000x32_1_0_0_1_n_n none
      (Host.absf (F := Ideal) (φ := .f32) (val_main_v13 (F := Ideal) x1)) (Host.absf (F := Ideal) (φ := .f32) (val_main_v24 (F := Ideal) x0 x1 x2 x3 x4))) (ix2 i k))
      (Ideal.ofBits .f32 0x4C800000#32) = 1#1 := congrFun h8 (ix2 i k)
  have ea : ∀ q, max (val_main_v13 (F := Ideal) x1 q) (-(val_main_v13 (F := Ideal) x1 q)) = ((|(D.qa (q 0) (q 1) : ℝ)| : ℝ) : EReal) :=
    fun q => by rw [Ref.qa_eq h, abs_coe]
  have es : ∀ q, max (val_main_v24 (F := Ideal) x0 x1 x2 x3 x4 q) (-(val_main_v24 (F := Ideal) x0 x1 x2 x3 x4 q)) = ((|(D.qs (q 0) (q 1) : ℝ)| : ℝ) : EReal) :=
    fun q => by rw [Ref.qs_eq h, abs_coe]
  rw [bound_apply, dot_coe _ _ _ _ (fun j => ea _) fun j => es _, w_two26] at e
  have e' := EReal.coe_le_coe_iff.mp (ofBool_one e)
  have : ((∑ j, (D.qa i j * D.qs j k).natAbs : ℕ) : ℝ) ≤ ((67108864 : ℕ) : ℝ) := by
    push_cast [Nat.cast_natAbs, abs_mul]
    exact e'
  exact_mod_cast this

end Cert.Proof

end
-- ==== Proof.Value2.lean ====
/- What pass 2 leaves in the result: the log-softmax of the last layer, of data whose int8 products the matrix unit sums exactly. -/
module

public import proofs.«01_k».proof.Proof.Value1
public import proofs.«01_k».proof.Proof.Payload2
public import proofs.«01_k».proof.Proof.Precondition

@[expose] public section

set_option maxRecDepth 16384

noncomputable section

namespace Cert.Proof

open Idealize.ShloMosaic Idealize.ShloMosaic.TcCoe Idealize.ShloMosaic.Pointwise Cert.KernelIdeal Cert.KernelIdeal.Gen
open Idealize.SL.Sem

namespace Value2

/-- What the body leaves in the result's block at a point, whatever the numbers are. -/
theorem after_result {F : FTy → Type} [FloatOps F] [Named F] (V : Dev nD → Valuation τ sig (Elt F)) (c : Dev nD) (t : Fin cfg1.N) :
    (Pass2.dat V c).after 6 t = k1_pay6 (Pass2.blk V c 0 t) (Pass2.scrCodes V c) (Pass2.scrScale V c) (Pass2.scrCorr V c)
      (Pass2.blk V c 2 t) (Pass2.blk V c 3 t) (Pass2.blk V c 5 t) := rfl

/-! ## Where each window's block lies -/

theorem at0 : ∀ t : Fin grid1.N, win1_0.index t = ![t.val, 0, 0] := by decide +kernel
theorem at1 : ∀ t : Fin grid1.N, win1_1.index t = ![0, 0] := by decide +kernel
theorem at2 : ∀ t : Fin grid1.N, win1_2.index t = ![t.val, 0] := by decide +kernel
theorem at3 : ∀ t : Fin grid1.N, win1_3.index t = ![0, 0] := by decide +kernel
theorem at4 : ∀ t : Fin grid1.N, win1_4.index t = ![0, 0] := by decide +kernel
theorem at5 : ∀ t : Fin grid1.N, win1_5.index t = ![0, 0] := by decide +kernel
theorem at6 : ∀ t : Fin grid1.N, win1_6.index t = ![t.val, 0] := by decide +kernel

variable {D : Data} {m : (ℓ : Loc nD τ sig) → Buf (Elt Ideal) ℓ} {c : Dev nD} (h : Holds D m c)

include h

theorem codes_block (t : Fin cfg1.N) (y : S1x400x10000.Idx) :
    ((Pass2.blk (W2 m) c 0 t : S1x400x10000.Idx → BitVec 8) y).toInt = D.qa (row t (y 1)) (y 2) := by
  have e : (Pass2.blk (W2 m) c 0 t : S1x400x10000.Idx → BitVec 8) y = (W2 m c main_call0_v8_2 : S25x400x10000.Idx → BitVec 8) (ix3 t (y 1) (y 2)) := by
    blk_simp [Pass2.blk]
    congr 1
    blk_ext [at0]
  rw [e]
  exact Value1.qa_eq h _

theorem s2_block (t : Fin cfg1.N) (y : S10000x32.Idx) : (Pass2.blk (W2 m) c 1 t : S10000x32.Idx → EReal) y = (D.s2 (y 0) (y 1) : EReal) := by
  have e : (Pass2.blk (W2 m) c 1 t : S10000x32.Idx → EReal) y = (W2 m c main_call0_v8_1 : S10000x32.Idx → EReal) y := by
    blk_simp [Pass2.blk]
    congr 1
    blk_ext [at1]
  exact e.trans (Value1.s2_eq h _)

theorem x1_block (t : Fin cfg1.N) (y : S400x64.Idx) : (Pass2.blk (W2 m) c 2 t : S400x64.Idx → EReal) y = (D.x1 (row t (y 0)) (y 1) : EReal) := by
  have e : (Pass2.blk (W2 m) c 2 t : S400x64.Idx → EReal) y = (W2 m c main_call0_v8_0 : S10000x64.Idx → EReal) (ix2 (row t (y 0)) (y 1)) := by
    blk_simp [Pass2.blk]
    congr 1
    blk_ext [at2, row]
  exact e.trans (Value1.x1_eq h _)

theorem wl_block (t : Fin cfg1.N) (y : S96x40.Idx) : (Pass2.blk (W2 m) c 3 t : S96x40.Idx → EReal) y = (D.wl (y 1) (y 0) : EReal) := by
  have e : (Pass2.blk (W2 m) c 3 t : S96x40.Idx → EReal) y = (W1 m c main_call0_v5 : S96x40.Idx → EReal) y := by
    rw [← show (W2 m c main_call0_v5 : S96x40.Idx → EReal) = W1 m c main_call0_v5 from W2_of m c main_call0_v5 (by decide)]
    blk_simp [Pass2.blk]
    congr 1
    blk_ext [at3]
  exact e.trans (Host.wl_eq h _)

theorem b2_block (t : Fin cfg1.N) (y : S1x32.Idx) : (Pass2.blk (W2 m) c 4 t : S1x32.Idx → EReal) y = (D.b2 (y 1) : EReal) := by
  have e : (Pass2.blk (W2 m) c 4 t : S1x32.Idx → EReal) y = (W1 m c main_call0_v6 : S1x32.Idx → EReal) y := by
    rw [← show (W2 m c main_call0_v6 : S1x32.Idx → EReal) = W1 m c main_call0_v6 from W2_of m c main_call0_v6 (by decide)]
    blk_simp [Pass2.blk]
    congr 1
    blk_ext [at4]
  exact e.trans (Host.b2_eq h _)

theorem bl_block (t : Fin cfg1.N) (y : S1x40.Idx) : (Pass2.blk (W2 m) c 5 t : S1x40.Idx → EReal) y = (D.bl (y 1) : EReal) := by
  have e : (Pass2.blk (W2 m) c 5 t : S1x40.Idx → EReal) y = (W1 m c main_call0_v7 : S1x40.Idx → EReal) y := by
    rw [← show (W2 m c main_call0_v7 : S1x40.Idx → EReal) = W1 m c main_call0_v7 from W2_of m c main_call0_v7 (by decide)]
    blk_simp [Pass2.blk]
    congr 1
    blk_ext [at5]
  exact e.trans (Host.bl_eq h _)

/-! ## The scratch -/

theorem scrCodes_eq (y : S10000x32.Idx) : ((Pass2.scrCodes (W2 m) c : S10000x32.Idx → BitVec 8) y).toInt = D.qs (y 0) (y 1) :=
  supportCodes_eq _ D.s2 (s2_block h Pass2.t0) y

theorem scrScale_eq (y : S1x32.Idx) : (Pass2.scrScale (W2 m) c : S1x32.Idx → EReal) y = ((D.scale (y 1) * (1 / 2540000) : ℝ) : EReal) :=
  descale_eq _ D.s2 (s2_block h Pass2.t0) y

theorem scrCorr_eq (y : S1x32.Idx) :
    (Pass2.scrCorr (W2 m) c : S1x32.Idx → EReal) y = (((∑ j, D.s2 j (y 1)) * (1 / 20000) + D.b2 (y 1) : ℝ) : EReal) :=
  offset_eq _ D.s2 (s2_block h Pass2.t0) _ D.b2 (b2_block h Pass2.t0) y

/-! ## The result -/

/-- The second layer, at a point's rows. -/
theorem x2_block (hD : D.Small) (t : Fin cfg1.N) (y : S400x32.Idx) :
    secondBlock (Pass2.blk (W2 m) c 0 t) (Pass2.scrCodes (W2 m) c) (Pass2.scrScale (W2 m) c) (Pass2.scrCorr (W2 m) c) y
      = (D.x2 (row t (y 0)) (y 1) : EReal) :=
  (secondBlock_eq _ _ _ _ (fun r j => D.qa (row t r) j) D.qs (fun k => D.scale k * (1 / 2540000))
    (fun k => (∑ j, D.s2 j k) * (1 / 20000) + D.b2 k) (codes_block h t) (scrCodes_eq h) (scrScale_eq h) (scrCorr_eq h) y
    (hD (row t (y 0)) (y 1))).trans (congrArg (fun r : ℝ => (r : EReal)) (D.x2_of_codes (row t (y 0)) (y 1)))

/-- The last layer, at a point's rows. -/
theorem o_block (hD : D.Small) (t : Fin cfg1.N) (y : S400x40.Idx) :
    lastBlock (secondBlock (Pass2.blk (W2 m) c 0 t) (Pass2.scrCodes (W2 m) c) (Pass2.scrScale (W2 m) c) (Pass2.scrCorr (W2 m) c))
      (Pass2.blk (W2 m) c 2 t) (Pass2.blk (W2 m) c 3 t) (Pass2.blk (W2 m) c 5 t) y = (D.o (row t (y 0)) (y 1) : EReal) :=
  (lastBlock_eq _ _ _ _ (fun r k => D.x2 (row t r) k) (fun r k => D.x1 (row t r) k) D.wl D.bl (x2_block h hD t) (x1_block h t)
    (wl_block h t) (bl_block h t) y).trans (congrArg (fun r : ℝ => (r : EReal)) (D.o_of_halves (row t (y 0)) (y 1)))

/-- What a point writes. -/
theorem y_block (hD : D.Small) (t : Fin cfg1.N) (y : S400x40.Idx) :
    k1_pay6 (F := Ideal) (Pass2.blk (W2 m) c 0 t) (Pass2.scrCodes (W2 m) c) (Pass2.scrScale (W2 m) c) (Pass2.scrCorr (W2 m) c)
      (Pass2.blk (W2 m) c 2 t) (Pass2.blk (W2 m) c 3 t) (Pass2.blk (W2 m) c 5 t) y = (D.y (row t (y 0)) (y 1) : EReal) := by
  rw [written_eq_stages]
  exact (lse_eq _ (fun r k => D.o (row t r) k) (o_block h hD t) y).trans
    (congrArg (fun r : ℝ => (r : EReal)) (D.y_of_lse (row t (y 0)) (y 1)))

end Value2

end Cert.Proof

end
-- ==== Proof.Result.lean ====
/- The kernel's result as an array: every row's blocks, put together. -/
module

public import proofs.«01_k».proof.Proof.Value2

@[expose] public section

set_option maxRecDepth 16384

noncomputable section

namespace Cert.Proof

open Idealize.ShloMosaic Idealize.ShloMosaic.TcCoe Idealize.ShloMosaic.Pointwise Cert.KernelIdeal Cert.KernelIdeal.Gen
open Idealize.SL.Sem

namespace Value2

variable {D : Data} {m : (ℓ : Loc nD τ sig) → Buf (Elt Ideal) ℓ} {c : Dev nD} (h : Holds D m c)

include h

/-- What the body leaves in the result's block at a point. -/
theorem after_eq (hD : D.Small) (t : Fin cfg1.N) (y : S400x40.Idx) :
    ((Pass2.dat (W2 m) c).after 6 t : S400x40.Idx → EReal) y = (D.y (row t (y 0)) (y 1) : EReal) :=
  (congrFun (after_result (W2 m) c t) y).trans (y_block h hD t y)

omit h in
theorem covers6 : win1_6.Covers := by decide +kernel

omit h in
/-- An array whose every block is right is right. -/
theorem result_of_blocks (d : Pipeline.Dat τ (Elt Ideal) Unit ℕ UU ℕ cfg1 c) (f : Fin 10000 → Fin 40 → ℝ)
    (hf : ∀ (t : Fin cfg1.N) (y : S400x40.Idx), (d.after 6 t : S400x40.Idx → EReal) y = (f (row t (y 0)) (y 1) : EReal)) :
    d.arrAt 6 cfg1.N = fun i : S10000x40.Idx => ((f (i 0) (i 1) : ℝ) : EReal) := by
  refine d.arrAt_eq_of_covers 6 _ covers6 fun t _ y => ?_
  have ei : (win1_6.blk t).view.emb y = (ix2 (row t (y 0)) (y 1) : S10000x40.Idx) := by blk_ext [at6, row]
  blk_simp
  rw [ei]
  exact hf t y

/-- The kernel's result. -/
theorem y_eq (hD : D.Small) (i : S10000x40.Idx) : (W3 m c main_v0 : S10000x40.Idx → EReal) i = (D.y (i 0) (i 1) : EReal) := by
  rw [W3_result, result_of_blocks _ D.y (after_eq h hD)]

end Value2

end Cert.Proof

end
-- ==== Proof.Algebraic.lean ====
/- The value claim: under the precondition the kernel and the reference, given the same arguments, end with one result. -/
module

public import proofs.«01_k».proof.Proof.Frames
public import proofs.«01_k».proof.Proof.Result
public import proofs.«01_k».proof.Proof.Gen.ReferenceIdeal.Read

@[expose] public section

noncomputable section

namespace Cert.Proof

open Idealize.ShloMosaic Idealize.ShloMosaic.TcCoe Idealize.SL.Sem Cert.KernelIdeal Cert.KernelIdeal.Gen

/-- The arguments as real arrays. -/
def inputs (m : (ℓ : Loc nD τ sig) → Buf (Elt Ideal) ℓ) (c : Dev nD) : Data :=
  dataOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

variable {m : (ℓ : Loc nD τ sig) → Buf (Elt Ideal) ℓ}

/-- The precondition makes every argument an array of reals. -/
theorem holds_of_pre (hp : Cert.Pre_KernelIdeal_finite_exact m) (c : Dev nD) : Holds (inputs m c) m c :=
  reads_of_pre (hp c).1 (hp c).2.1 (hp c).2.2.1 (hp c).2.2.2.1 (hp c).2.2.2.2.1 (hp c).2.2.2.2.2.1 (hp c).2.2.2.2.2.2.1
    (hp c).2.2.2.2.2.2.2.1

/-- And it keeps the sums of the code products within what the int8 product sums exactly. -/
theorem small_of_holds (hp : Cert.Pre_KernelIdeal_finite_exact m) (c : Dev nD) : (inputs m c).Small :=
  small_of_pre (holds_of_pre hp c) (hp c).2.2.2.2.2.2.2.2

/-- The reference's result, of arguments that are the kernel's, is the kernel's. -/
theorem results_agree (hp : Cert.Pre_KernelIdeal_finite_exact m) (c : Dev nD) :
    Cert.ReferenceIdeal.Read.val_main_v48 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      = W3 m c main_v0 :=
  funext fun i => (Ref.y_eq (holds_of_pre hp c) i).trans (Value2.y_eq (holds_of_pre hp c) (small_of_holds hp c) i).symm

/-- The value claim. -/
theorem algebraic : Cert.algebraic_KernelIdeal_ReferenceIdeal_pre_finite_exact := fun m ρ m' ρ' hp ha => by
  refine ⟨fun c => W3 m c main_v0, ?_, ?_⟩
  · refine (θ_run Cert.KernelIdeal.defs _ _).mono (fun _ h c => ⟨(h.1 c).1, ?_⟩) (run_main (F := Ideal) m ρ)
    have e := (h.1 c).2
    simpa using e
  · refine (θ_run Cert.ReferenceIdeal.defs _ _).mono (fun _ h c => ⟨?_, (h c).2⟩) (Cert.ReferenceIdeal.Value.run (F := Ideal) m' ρ')
    obtain ⟨e0, e1, e2, e3, e4, e5, e6, e7⟩ := ha c
    refine (h c).1.trans ((Cert.ReferenceIdeal.Read.val_main_v48_eq m' c).trans ?_)
    rw [e0, e1, e2, e3, e4, e5, e6, e7]
    exact results_agree hp c

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_exact
public import proofs.«01_k».proof.Proof.Frames
public import proofs.«01_k».proof.Proof.Algebraic

@[expose] public section

noncomputable section

namespace Cert.Proof

/-- All the claims. A frame under the precondition is the frame without it. -/
theorem claim : Cert.Claim :=
  ⟨Cert.Kernel.Gen.facts, Cert.KernelIdeal.Gen.facts, Cert.ReferenceIdeal.Gen.facts, Cert.Pre_finite_exact.Gen.facts,
    frame_kernel, frame_kernelIdeal, fun m ρ _ => frame_kernelIdeal m ρ trivial, frame_reference,
    fun m ρ _ => frame_reference m ρ trivial, preserves, algebraic⟩

end Cert.Proof

end
